-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 8192]⟩ ⟨2, ![4096, 8192]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S4096x8192 : Shape := ⟨2, ![4096, 8192]⟩
abbrev S1 : Shape := ⟨1, ![1]⟩
abbrev S256x8192 : Shape := ⟨2, ![256, 8192]⟩
abbrev S512x8192 : Shape := ⟨2, ![512, 8192]⟩
abbrev S256x4096 : Shape := ⟨2, ![256, 4096]⟩
abbrev S16 : Shape := ⟨1, ![16]⟩
abbrev S_ : Shape := ⟨0, ![]⟩
abbrev S256x256 : Shape := ⟨2, ![256, 256]⟩
abbrev S256x512 : Shape := ⟨2, ![256, 512]⟩

abbrev nBuf : Space → Nat
  | .hbm => 5
  | .vmem => 6
  | .smem => 2
  | _ => 0

abbrev bufTy : (tb : Table) → Fin (tcTables nBuf tb) → BufTy
  | .hbm, ⟨0, _⟩ => ⟨S4096x256, .fp8e4m3⟩
  | .hbm, ⟨1, _⟩ => ⟨S4096x8192, .fp8e4m3⟩
  | .hbm, ⟨2, _⟩ => ⟨S1, .f32⟩
  | .hbm, ⟨3, _⟩ => ⟨S1, .f32⟩
  | .hbm, ⟨4, _⟩ => ⟨S256x8192, .f32⟩
  | .local _ .vmem, ⟨0, _⟩ => ⟨S4096x256, .fp8e4m3⟩
  | .local _ .vmem, ⟨1, _⟩ => ⟨S512x8192, .fp8e4m3⟩
  | .local _ .vmem, ⟨2, _⟩ => ⟨S512x8192, .fp8e4m3⟩
  | .local _ .vmem, ⟨3, _⟩ => ⟨S256x8192, .f32⟩
  | .local _ .vmem, ⟨4, _⟩ => ⟨S4096x256, .fp8e4m3⟩
  | .local _ .vmem, ⟨5, _⟩ => ⟨S256x4096, .fp8e4m3⟩
  | .local _ .smem, ⟨0, _⟩ => ⟨S1, .f32⟩
  | .local _ .smem, ⟨1, _⟩ => ⟨S1, .f32⟩
  | _, _ => ⟨S4096x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg4_0 : Ref sig .tc := ⟨.vmem, 3, rfl⟩
abbrev cc0_scratch0 : Ref sig .tc := ⟨.vmem, 4, rfl⟩
abbrev cc0_scratch1 : Ref sig .tc := ⟨.vmem, 5, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev barrier0 : Sem sig := 0

abbrev nD : Nat := 16
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_0 : BitVec 32 := 0#32
  let v5 : BitVec 1 := Scalar.cmpi .ne v4 c0_i32_0
  v5

def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_15 : BitVec 32 := 0#32
  let v35 : BitVec 1 := Scalar.cmpi .ne v2 c0_i32_15
  let v36 : BitVec 32 := Scalar.extui v35
  let c0_i32_16 : BitVec 32 := 0#32
  let v37 : BitVec 1 := Scalar.cmpi .ne v36 c0_i32_16
  v37

def k0_dev1 : Nat :=
  let c0_i32_39 : BitVec 32 := 0#32
  let c0_i32_37 : BitVec 32 := 0#32
  let c1_i32_38 : BitVec 32 := 1#32
  let v83 : BitVec 32 := Scalar.muli c0_i32_37 c1_i32_38
  let v84 : BitVec 32 := Scalar.addi c0_i32_39 v83
  v84.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_17 : BitVec 32 := 1#32
  let v38 : BitVec 1 := Scalar.cmpi .ne v2 c1_i32_17
  let v39 : BitVec 32 := Scalar.extui v38
  let c0_i32_18 : BitVec 32 := 0#32
  let v40 : BitVec 1 := Scalar.cmpi .ne v39 c0_i32_18
  v40

def k0_dev2 : Nat :=
  let c0_i32_39 : BitVec 32 := 0#32
  let c1_i32_37 : BitVec 32 := 1#32
  let c1_i32_38 : BitVec 32 := 1#32
  let v83 : BitVec 32 := Scalar.muli c1_i32_37 c1_i32_38
  let v84 : BitVec 32 := Scalar.addi c0_i32_39 v83
  v84.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_19 : BitVec 32 := 2#32
  let v41 : BitVec 1 := Scalar.cmpi .ne v2 c2_i32_19
  let v42 : BitVec 32 := Scalar.extui v41
  let c0_i32_20 : BitVec 32 := 0#32
  let v43 : BitVec 1 := Scalar.cmpi .ne v42 c0_i32_20
  v43

def k0_dev3 : Nat :=
  let c0_i32_39 : BitVec 32 := 0#32
  let c2_i32_37 : BitVec 32 := 2#32
  let c1_i32_38 : BitVec 32 := 1#32
  let v83 : BitVec 32 := Scalar.muli c2_i32_37 c1_i32_38
  let v84 : BitVec 32 := Scalar.addi c0_i32_39 v83
  v84.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v44 : BitVec 1 := Scalar.cmpi .ne v2 c3_i32
  let v45 : BitVec 32 := Scalar.extui v44
  let c0_i32_21 : BitVec 32 := 0#32
  let v46 : BitVec 1 := Scalar.cmpi .ne v45 c0_i32_21
  v46

def k0_dev4 : Nat :=
  let c0_i32_39 : BitVec 32 := 0#32
  let c3_i32_37 : BitVec 32 := 3#32
  let c1_i32_38 : BitVec 32 := 1#32
  let v83 : BitVec 32 := Scalar.muli c3_i32_37 c1_i32_38
  let v84 : BitVec 32 := Scalar.addi c0_i32_39 v83
  v84.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v47 : BitVec 1 := Scalar.cmpi .ne v2 c4_i32
  let v48 : BitVec 32 := Scalar.extui v47
  let c0_i32_22 : BitVec 32 := 0#32
  let v49 : BitVec 1 := Scalar.cmpi .ne v48 c0_i32_22
  v49

def k0_dev5 : Nat :=
  let c0_i32_39 : BitVec 32 := 0#32
  let c4_i32_37 : BitVec 32 := 4#32
  let c1_i32_38 : BitVec 32 := 1#32
  let v83 : BitVec 32 := Scalar.muli c4_i32_37 c1_i32_38
  let v84 : BitVec 32 := Scalar.addi c0_i32_39 v83
  v84.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v50 : BitVec 1 := Scalar.cmpi .ne v2 c5_i32
  let v51 : BitVec 32 := Scalar.extui v50
  let c0_i32_23 : BitVec 32 := 0#32
  let v52 : BitVec 1 := Scalar.cmpi .ne v51 c0_i32_23
  v52

def k0_dev6 : Nat :=
  let c0_i32_39 : BitVec 32 := 0#32
  let c5_i32_37 : BitVec 32 := 5#32
  let c1_i32_38 : BitVec 32 := 1#32
  let v83 : BitVec 32 := Scalar.muli c5_i32_37 c1_i32_38
  let v84 : BitVec 32 := Scalar.addi c0_i32_39 v83
  v84.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v53 : BitVec 1 := Scalar.cmpi .ne v2 c6_i32
  let v54 : BitVec 32 := Scalar.extui v53
  let c0_i32_24 : BitVec 32 := 0#32
  let v55 : BitVec 1 := Scalar.cmpi .ne v54 c0_i32_24
  v55

def k0_dev7 : Nat :=
  let c0_i32_39 : BitVec 32 := 0#32
  let c6_i32_37 : BitVec 32 := 6#32
  let c1_i32_38 : BitVec 32 := 1#32
  let v83 : BitVec 32 := Scalar.muli c6_i32_37 c1_i32_38
  let v84 : BitVec 32 := Scalar.addi c0_i32_39 v83
  v84.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_25 : BitVec 32 := 7#32
  let v56 : BitVec 1 := Scalar.cmpi .ne v2 c7_i32_25
  let v57 : BitVec 32 := Scalar.extui v56
  let c0_i32_26 : BitVec 32 := 0#32
  let v58 : BitVec 1 := Scalar.cmpi .ne v57 c0_i32_26
  v58

def k0_dev8 : Nat :=
  let c0_i32_39 : BitVec 32 := 0#32
  let c7_i32_37 : BitVec 32 := 7#32
  let c1_i32_38 : BitVec 32 := 1#32
  let v83 : BitVec 32 := Scalar.muli c7_i32_37 c1_i32_38
  let v84 : BitVec 32 := Scalar.addi c0_i32_39 v83
  v84.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v59 : BitVec 1 := Scalar.cmpi .ne v2 c8_i32
  let v60 : BitVec 32 := Scalar.extui v59
  let c0_i32_27 : BitVec 32 := 0#32
  let v61 : BitVec 1 := Scalar.cmpi .ne v60 c0_i32_27
  v61

def k0_dev9 : Nat :=
  let c0_i32_39 : BitVec 32 := 0#32
  let c8_i32_37 : BitVec 32 := 8#32
  let c1_i32_38 : BitVec 32 := 1#32
  let v83 : BitVec 32 := Scalar.muli c8_i32_37 c1_i32_38
  let v84 : BitVec 32 := Scalar.addi c0_i32_39 v83
  v84.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v62 : BitVec 1 := Scalar.cmpi .ne v2 c9_i32
  let v63 : BitVec 32 := Scalar.extui v62
  let c0_i32_28 : BitVec 32 := 0#32
  let v64 : BitVec 1 := Scalar.cmpi .ne v63 c0_i32_28
  v64

def k0_dev10 : Nat :=
  let c0_i32_39 : BitVec 32 := 0#32
  let c9_i32_37 : BitVec 32 := 9#32
  let c1_i32_38 : BitVec 32 := 1#32
  let v83 : BitVec 32 := Scalar.muli c9_i32_37 c1_i32_38
  let v84 : BitVec 32 := Scalar.addi c0_i32_39 v83
  v84.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v65 : BitVec 1 := Scalar.cmpi .ne v2 c10_i32
  let v66 : BitVec 32 := Scalar.extui v65
  let c0_i32_29 : BitVec 32 := 0#32
  let v67 : BitVec 1 := Scalar.cmpi .ne v66 c0_i32_29
  v67

def k0_dev11 : Nat :=
  let c0_i32_39 : BitVec 32 := 0#32
  let c10_i32_37 : BitVec 32 := 10#32
  let c1_i32_38 : BitVec 32 := 1#32
  let v83 : BitVec 32 := Scalar.muli c10_i32_37 c1_i32_38
  let v84 : BitVec 32 := Scalar.addi c0_i32_39 v83
  v84.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v68 : BitVec 1 := Scalar.cmpi .ne v2 c11_i32
  let v69 : BitVec 32 := Scalar.extui v68
  let c0_i32_30 : BitVec 32 := 0#32
  let v70 : BitVec 1 := Scalar.cmpi .ne v69 c0_i32_30
  v70

def k0_dev12 : Nat :=
  let c0_i32_39 : BitVec 32 := 0#32
  let c11_i32_37 : BitVec 32 := 11#32
  let c1_i32_38 : BitVec 32 := 1#32
  let v83 : BitVec 32 := Scalar.muli c11_i32_37 c1_i32_38
  let v84 : BitVec 32 := Scalar.addi c0_i32_39 v83
  v84.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v71 : BitVec 1 := Scalar.cmpi .ne v2 c12_i32
  let v72 : BitVec 32 := Scalar.extui v71
  let c0_i32_31 : BitVec 32 := 0#32
  let v73 : BitVec 1 := Scalar.cmpi .ne v72 c0_i32_31
  v73

def k0_dev13 : Nat :=
  let c0_i32_39 : BitVec 32 := 0#32
  let c12_i32_37 : BitVec 32 := 12#32
  let c1_i32_38 : BitVec 32 := 1#32
  let v83 : BitVec 32 := Scalar.muli c12_i32_37 c1_i32_38
  let v84 : BitVec 32 := Scalar.addi c0_i32_39 v83
  v84.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v74 : BitVec 1 := Scalar.cmpi .ne v2 c13_i32
  let v75 : BitVec 32 := Scalar.extui v74
  let c0_i32_32 : BitVec 32 := 0#32
  let v76 : BitVec 1 := Scalar.cmpi .ne v75 c0_i32_32
  v76

def k0_dev14 : Nat :=
  let c0_i32_39 : BitVec 32 := 0#32
  let c13_i32_37 : BitVec 32 := 13#32
  let c1_i32_38 : BitVec 32 := 1#32
  let v83 : BitVec 32 := Scalar.muli c13_i32_37 c1_i32_38
  let v84 : BitVec 32 := Scalar.addi c0_i32_39 v83
  v84.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v77 : BitVec 1 := Scalar.cmpi .ne v2 c14_i32
  let v78 : BitVec 32 := Scalar.extui v77
  let c0_i32_33 : BitVec 32 := 0#32
  let v79 : BitVec 1 := Scalar.cmpi .ne v78 c0_i32_33
  v79

def k0_dev15 : Nat :=
  let c0_i32_39 : BitVec 32 := 0#32
  let c14_i32_37 : BitVec 32 := 14#32
  let c1_i32_38 : BitVec 32 := 1#32
  let v83 : BitVec 32 := Scalar.muli c14_i32_37 c1_i32_38
  let v84 : BitVec 32 := Scalar.addi c0_i32_39 v83
  v84.toNat
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v80 : BitVec 1 := Scalar.cmpi .ne v2 c15_i32
  let v81 : BitVec 32 := Scalar.extui v80
  let c0_i32_34 : BitVec 32 := 0#32
  let v82 : BitVec 1 := Scalar.cmpi .ne v81 c0_i32_34
  v82

def k0_dev16 : Nat :=
  let c0_i32_39 : BitVec 32 := 0#32
  let c15_i32_37 : BitVec 32 := 15#32
  let c1_i32_38 : BitVec 32 := 1#32
  let v83 : BitVec 32 := Scalar.muli c15_i32_37 c1_i32_38
  let v84 : BitVec 32 := Scalar.addi c0_i32_39 v83
  v84.toNat
def k0_cond18 (i : grid0.Coords) : BitVec 1 :=
  let arg0 : BitVec 32 := BitVec.ofNat 32 (i 0).val
  let c0_i32_1 : BitVec 32 := 0#32
  let v6 : BitVec 1 := Scalar.cmpi .eq arg0 c0_i32_1
  let v7 : BitVec 32 := Scalar.extui v6
  let c0_i32_2 : BitVec 32 := 0#32
  let v8 : BitVec 1 := Scalar.cmpi .ne v7 c0_i32_2
  v8

def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v39 : BitVec 32 := Scalar.muli v2 c256_i32
  let v40 : Index := Scalar.indexCast v39
  let c0_19 : Index := 0#32
  ![v40.toNat, 0]
def k0_off2 (d0 : Dev nD) : Fin 2 → Nat :=
  let c0_21 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_20 : BitVec 32 := 256#32
  let v42 : BitVec 32 := Scalar.muli v2 c256_i32_20
  let v43 : Index := Scalar.indexCast v42
  ![0, v43.toNat]
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_22 : BitVec 32 := 0#32
  let v47 : BitVec 1 := Scalar.cmpi .ne v2 c0_i32_22
  let v48 : BitVec 32 := Scalar.extui v47
  let c0_i32_23 : BitVec 32 := 0#32
  let v49 : BitVec 1 := Scalar.cmpi .ne v48 c0_i32_23
  v49

def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off4 (d0 : Dev nD) : Fin 2 → Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_42 : BitVec 32 := 256#32
  let v95 : BitVec 32 := Scalar.muli v2 c256_i32_42
  ![0, v95.toNat]
def k0_dev17 : Nat :=
  let c0_i32_46 : BitVec 32 := 0#32
  let c0_i32_44 : BitVec 32 := 0#32
  let c1_i32_45 : BitVec 32 := 1#32
  let v96 : BitVec 32 := Scalar.muli c0_i32_44 c1_i32_45
  let v97 : BitVec 32 := Scalar.addi c0_i32_46 v96
  v97.toNat
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_24 : BitVec 32 := 1#32
  let v50 : BitVec 1 := Scalar.cmpi .ne v2 c1_i32_24
  let v51 : BitVec 32 := Scalar.extui v50
  let c0_i32_25 : BitVec 32 := 0#32
  let v52 : BitVec 1 := Scalar.cmpi .ne v51 c0_i32_25
  v52

def k0_off5 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off6 (d0 : Dev nD) : Fin 2 → Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_42 : BitVec 32 := 256#32
  let v95 : BitVec 32 := Scalar.muli v2 c256_i32_42
  ![0, v95.toNat]
def k0_dev18 : Nat :=
  let c0_i32_46 : BitVec 32 := 0#32
  let c1_i32_44 : BitVec 32 := 1#32
  let c1_i32_45 : BitVec 32 := 1#32
  let v96 : BitVec 32 := Scalar.muli c1_i32_44 c1_i32_45
  let v97 : BitVec 32 := Scalar.addi c0_i32_46 v96
  v97.toNat
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_26 : BitVec 32 := 2#32
  let v53 : BitVec 1 := Scalar.cmpi .ne v2 c2_i32_26
  let v54 : BitVec 32 := Scalar.extui v53
  let c0_i32_27 : BitVec 32 := 0#32
  let v55 : BitVec 1 := Scalar.cmpi .ne v54 c0_i32_27
  v55

def k0_off7 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off8 (d0 : Dev nD) : Fin 2 → Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_42 : BitVec 32 := 256#32
  let v95 : BitVec 32 := Scalar.muli v2 c256_i32_42
  ![0, v95.toNat]
def k0_dev19 : Nat :=
  let c0_i32_46 : BitVec 32 := 0#32
  let c2_i32_44 : BitVec 32 := 2#32
  let c1_i32_45 : BitVec 32 := 1#32
  let v96 : BitVec 32 := Scalar.muli c2_i32_44 c1_i32_45
  let v97 : BitVec 32 := Scalar.addi c0_i32_46 v96
  v97.toNat
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v56 : BitVec 1 := Scalar.cmpi .ne v2 c3_i32
  let v57 : BitVec 32 := Scalar.extui v56
  let c0_i32_28 : BitVec 32 := 0#32
  let v58 : BitVec 1 := Scalar.cmpi .ne v57 c0_i32_28
  v58

def k0_off9 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off10 (d0 : Dev nD) : Fin 2 → Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_42 : BitVec 32 := 256#32
  let v95 : BitVec 32 := Scalar.muli v2 c256_i32_42
  ![0, v95.toNat]
def k0_dev20 : Nat :=
  let c0_i32_46 : BitVec 32 := 0#32
  let c3_i32_44 : BitVec 32 := 3#32
  let c1_i32_45 : BitVec 32 := 1#32
  let v96 : BitVec 32 := Scalar.muli c3_i32_44 c1_i32_45
  let v97 : BitVec 32 := Scalar.addi c0_i32_46 v96
  v97.toNat
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v59 : BitVec 1 := Scalar.cmpi .ne v2 c4_i32
  let v60 : BitVec 32 := Scalar.extui v59
  let c0_i32_29 : BitVec 32 := 0#32
  let v61 : BitVec 1 := Scalar.cmpi .ne v60 c0_i32_29
  v61

def k0_off11 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off12 (d0 : Dev nD) : Fin 2 → Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_42 : BitVec 32 := 256#32
  let v95 : BitVec 32 := Scalar.muli v2 c256_i32_42
  ![0, v95.toNat]
def k0_dev21 : Nat :=
  let c0_i32_46 : BitVec 32 := 0#32
  let c4_i32_44 : BitVec 32 := 4#32
  let c1_i32_45 : BitVec 32 := 1#32
  let v96 : BitVec 32 := Scalar.muli c4_i32_44 c1_i32_45
  let v97 : BitVec 32 := Scalar.addi c0_i32_46 v96
  v97.toNat
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v62 : BitVec 1 := Scalar.cmpi .ne v2 c5_i32
  let v63 : BitVec 32 := Scalar.extui v62
  let c0_i32_30 : BitVec 32 := 0#32
  let v64 : BitVec 1 := Scalar.cmpi .ne v63 c0_i32_30
  v64

def k0_off13 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off14 (d0 : Dev nD) : Fin 2 → Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_42 : BitVec 32 := 256#32
  let v95 : BitVec 32 := Scalar.muli v2 c256_i32_42
  ![0, v95.toNat]
def k0_dev22 : Nat :=
  let c0_i32_46 : BitVec 32 := 0#32
  let c5_i32_44 : BitVec 32 := 5#32
  let c1_i32_45 : BitVec 32 := 1#32
  let v96 : BitVec 32 := Scalar.muli c5_i32_44 c1_i32_45
  let v97 : BitVec 32 := Scalar.addi c0_i32_46 v96
  v97.toNat
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v65 : BitVec 1 := Scalar.cmpi .ne v2 c6_i32
  let v66 : BitVec 32 := Scalar.extui v65
  let c0_i32_31 : BitVec 32 := 0#32
  let v67 : BitVec 1 := Scalar.cmpi .ne v66 c0_i32_31
  v67

def k0_off15 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off16 (d0 : Dev nD) : Fin 2 → Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_42 : BitVec 32 := 256#32
  let v95 : BitVec 32 := Scalar.muli v2 c256_i32_42
  ![0, v95.toNat]
def k0_dev23 : Nat :=
  let c0_i32_46 : BitVec 32 := 0#32
  let c6_i32_44 : BitVec 32 := 6#32
  let c1_i32_45 : BitVec 32 := 1#32
  let v96 : BitVec 32 := Scalar.muli c6_i32_44 c1_i32_45
  let v97 : BitVec 32 := Scalar.addi c0_i32_46 v96
  v97.toNat
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_32 : BitVec 32 := 7#32
  let v68 : BitVec 1 := Scalar.cmpi .ne v2 c7_i32_32
  let v69 : BitVec 32 := Scalar.extui v68
  let c0_i32_33 : BitVec 32 := 0#32
  let v70 : BitVec 1 := Scalar.cmpi .ne v69 c0_i32_33
  v70

def k0_off17 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off18 (d0 : Dev nD) : Fin 2 → Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_42 : BitVec 32 := 256#32
  let v95 : BitVec 32 := Scalar.muli v2 c256_i32_42
  ![0, v95.toNat]
def k0_dev24 : Nat :=
  let c0_i32_46 : BitVec 32 := 0#32
  let c7_i32_44 : BitVec 32 := 7#32
  let c1_i32_45 : BitVec 32 := 1#32
  let v96 : BitVec 32 := Scalar.muli c7_i32_44 c1_i32_45
  let v97 : BitVec 32 := Scalar.addi c0_i32_46 v96
  v97.toNat
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v71 : BitVec 1 := Scalar.cmpi .ne v2 c8_i32
  let v72 : BitVec 32 := Scalar.extui v71
  let c0_i32_34 : BitVec 32 := 0#32
  let v73 : BitVec 1 := Scalar.cmpi .ne v72 c0_i32_34
  v73

def k0_off19 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off20 (d0 : Dev nD) : Fin 2 → Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_42 : BitVec 32 := 256#32
  let v95 : BitVec 32 := Scalar.muli v2 c256_i32_42
  ![0, v95.toNat]
def k0_dev25 : Nat :=
  let c0_i32_46 : BitVec 32 := 0#32
  let c8_i32_44 : BitVec 32 := 8#32
  let c1_i32_45 : BitVec 32 := 1#32
  let v96 : BitVec 32 := Scalar.muli c8_i32_44 c1_i32_45
  let v97 : BitVec 32 := Scalar.addi c0_i32_46 v96
  v97.toNat
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v74 : BitVec 1 := Scalar.cmpi .ne v2 c9_i32
  let v75 : BitVec 32 := Scalar.extui v74
  let c0_i32_35 : BitVec 32 := 0#32
  let v76 : BitVec 1 := Scalar.cmpi .ne v75 c0_i32_35
  v76

def k0_off21 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off22 (d0 : Dev nD) : Fin 2 → Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_42 : BitVec 32 := 256#32
  let v95 : BitVec 32 := Scalar.muli v2 c256_i32_42
  ![0, v95.toNat]
def k0_dev26 : Nat :=
  let c0_i32_46 : BitVec 32 := 0#32
  let c9_i32_44 : BitVec 32 := 9#32
  let c1_i32_45 : BitVec 32 := 1#32
  let v96 : BitVec 32 := Scalar.muli c9_i32_44 c1_i32_45
  let v97 : BitVec 32 := Scalar.addi c0_i32_46 v96
  v97.toNat
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v77 : BitVec 1 := Scalar.cmpi .ne v2 c10_i32
  let v78 : BitVec 32 := Scalar.extui v77
  let c0_i32_36 : BitVec 32 := 0#32
  let v79 : BitVec 1 := Scalar.cmpi .ne v78 c0_i32_36
  v79

def k0_off23 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off24 (d0 : Dev nD) : Fin 2 → Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_42 : BitVec 32 := 256#32
  let v95 : BitVec 32 := Scalar.muli v2 c256_i32_42
  ![0, v95.toNat]
def k0_dev27 : Nat :=
  let c0_i32_46 : BitVec 32 := 0#32
  let c10_i32_44 : BitVec 32 := 10#32
  let c1_i32_45 : BitVec 32 := 1#32
  let v96 : BitVec 32 := Scalar.muli c10_i32_44 c1_i32_45
  let v97 : BitVec 32 := Scalar.addi c0_i32_46 v96
  v97.toNat
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v80 : BitVec 1 := Scalar.cmpi .ne v2 c11_i32
  let v81 : BitVec 32 := Scalar.extui v80
  let c0_i32_37 : BitVec 32 := 0#32
  let v82 : BitVec 1 := Scalar.cmpi .ne v81 c0_i32_37
  v82

def k0_off25 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off26 (d0 : Dev nD) : Fin 2 → Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_42 : BitVec 32 := 256#32
  let v95 : BitVec 32 := Scalar.muli v2 c256_i32_42
  ![0, v95.toNat]
def k0_dev28 : Nat :=
  let c0_i32_46 : BitVec 32 := 0#32
  let c11_i32_44 : BitVec 32 := 11#32
  let c1_i32_45 : BitVec 32 := 1#32
  let v96 : BitVec 32 := Scalar.muli c11_i32_44 c1_i32_45
  let v97 : BitVec 32 := Scalar.addi c0_i32_46 v96
  v97.toNat
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v83 : BitVec 1 := Scalar.cmpi .ne v2 c12_i32
  let v84 : BitVec 32 := Scalar.extui v83
  let c0_i32_38 : BitVec 32 := 0#32
  let v85 : BitVec 1 := Scalar.cmpi .ne v84 c0_i32_38
  v85

def k0_off27 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off28 (d0 : Dev nD) : Fin 2 → Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_42 : BitVec 32 := 256#32
  let v95 : BitVec 32 := Scalar.muli v2 c256_i32_42
  ![0, v95.toNat]
def k0_dev29 : Nat :=
  let c0_i32_46 : BitVec 32 := 0#32
  let c12_i32_44 : BitVec 32 := 12#32
  let c1_i32_45 : BitVec 32 := 1#32
  let v96 : BitVec 32 := Scalar.muli c12_i32_44 c1_i32_45
  let v97 : BitVec 32 := Scalar.addi c0_i32_46 v96
  v97.toNat
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v86 : BitVec 1 := Scalar.cmpi .ne v2 c13_i32
  let v87 : BitVec 32 := Scalar.extui v86
  let c0_i32_39 : BitVec 32 := 0#32
  let v88 : BitVec 1 := Scalar.cmpi .ne v87 c0_i32_39
  v88

def k0_off29 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off30 (d0 : Dev nD) : Fin 2 → Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_42 : BitVec 32 := 256#32
  let v95 : BitVec 32 := Scalar.muli v2 c256_i32_42
  ![0, v95.toNat]
def k0_dev30 : Nat :=
  let c0_i32_46 : BitVec 32 := 0#32
  let c13_i32_44 : BitVec 32 := 13#32
  let c1_i32_45 : BitVec 32 := 1#32
  let v96 : BitVec 32 := Scalar.muli c13_i32_44 c1_i32_45
  let v97 : BitVec 32 := Scalar.addi c0_i32_46 v96
  v97.toNat
def k0_cond33 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v89 : BitVec 1 := Scalar.cmpi .ne v2 c14_i32
  let v90 : BitVec 32 := Scalar.extui v89
  let c0_i32_40 : BitVec 32 := 0#32
  let v91 : BitVec 1 := Scalar.cmpi .ne v90 c0_i32_40
  v91

def k0_off31 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off32 (d0 : Dev nD) : Fin 2 → Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_42 : BitVec 32 := 256#32
  let v95 : BitVec 32 := Scalar.muli v2 c256_i32_42
  ![0, v95.toNat]
def k0_dev31 : Nat :=
  let c0_i32_46 : BitVec 32 := 0#32
  let c14_i32_44 : BitVec 32 := 14#32
  let c1_i32_45 : BitVec 32 := 1#32
  let v96 : BitVec 32 := Scalar.muli c14_i32_44 c1_i32_45
  let v97 : BitVec 32 := Scalar.addi c0_i32_46 v96
  v97.toNat
def k0_cond34 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v92 : BitVec 1 := Scalar.cmpi .ne v2 c15_i32
  let v93 : BitVec 32 := Scalar.extui v92
  let c0_i32_41 : BitVec 32 := 0#32
  let v94 : BitVec 1 := Scalar.cmpi .ne v93 c0_i32_41
  v94

def k0_off33 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off34 (d0 : Dev nD) : Fin 2 → Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_42 : BitVec 32 := 256#32
  let v95 : BitVec 32 := Scalar.muli v2 c256_i32_42
  ![0, v95.toNat]
def k0_dev32 : Nat :=
  let c0_i32_46 : BitVec 32 := 0#32
  let c15_i32_44 : BitVec 32 := 15#32
  let c1_i32_45 : BitVec 32 := 1#32
  let v96 : BitVec 32 := Scalar.muli c15_i32_44 c1_i32_45
  let v97 : BitVec 32 := Scalar.addi c0_i32_46 v96
  v97.toNat
def k0_cond35 (i : grid0.Coords) (d0 : Dev nD) : BitVec 1 :=
  let arg0 : BitVec 32 := BitVec.ofNat 32 (i 0).val
  let c2_i32 : BitVec 32 := 2#32
  let v9 : BitVec 32 := Scalar.muli arg0 c2_i32
  let c0_i32_3 : BitVec 32 := 0#32
  let v10 : BitVec 32 := Scalar.addi v9 c0_i32_3
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v11 : BitVec 1 := Scalar.cmpi .ne v10 v2
  let v12 : BitVec 32 := Scalar.extui v11
  let c0_i32_4 : BitVec 32 := 0#32
  let v13 : BitVec 1 := Scalar.cmpi .ne v12 c0_i32_4
  v13

def k0_off35 (i : grid0.Coords) : Fin 1 → Nat :=
  let arg0 : BitVec 32 := BitVec.ofNat 32 (i 0).val
  let c2_i32 : BitVec 32 := 2#32
  let v9 : BitVec 32 := Scalar.muli arg0 c2_i32
  let c0_i32_3 : BitVec 32 := 0#32
  let v10 : BitVec 32 := Scalar.addi v9 c0_i32_3
  ![v10.toNat]
def k0_off36 (i : grid0.Coords) : Fin 2 → Nat :=
  let c0_i32_19 : BitVec 32 := 0#32
  let arg0 : BitVec 32 := BitVec.ofNat 32 (i 0).val
  let c2_i32 : BitVec 32 := 2#32
  let v9 : BitVec 32 := Scalar.muli arg0 c2_i32
  let c0_i32_3 : BitVec 32 := 0#32
  let v10 : BitVec 32 := Scalar.addi v9 c0_i32_3
  let c256_i32 : BitVec 32 := 256#32
  let v34 : BitVec 32 := Scalar.muli v10 c256_i32
  ![0, v34.toNat]
def k0_cond36 (i : grid0.Coords) (d0 : Dev nD) : BitVec 1 :=
  let arg0 : BitVec 32 := BitVec.ofNat 32 (i 0).val
  let c2_i32_5 : BitVec 32 := 2#32
  let v14 : BitVec 32 := Scalar.muli arg0 c2_i32_5
  let c1_i32_6 : BitVec 32 := 1#32
  let v15 : BitVec 32 := Scalar.addi v14 c1_i32_6
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v16 : BitVec 1 := Scalar.cmpi .ne v15 v2
  let v17 : BitVec 32 := Scalar.extui v16
  let c0_i32_7 : BitVec 32 := 0#32
  let v18 : BitVec 1 := Scalar.cmpi .ne v17 c0_i32_7
  v18

def k0_off37 (i : grid0.Coords) : Fin 1 → Nat :=
  let arg0 : BitVec 32 := BitVec.ofNat 32 (i 0).val
  let c2_i32_5 : BitVec 32 := 2#32
  let v14 : BitVec 32 := Scalar.muli arg0 c2_i32_5
  let c1_i32_6 : BitVec 32 := 1#32
  let v15 : BitVec 32 := Scalar.addi v14 c1_i32_6
  ![v15.toNat]
def k0_off38 (i : grid0.Coords) : Fin 2 → Nat :=
  let c0_i32_19 : BitVec 32 := 0#32
  let arg0 : BitVec 32 := BitVec.ofNat 32 (i 0).val
  let c2_i32_5 : BitVec 32 := 2#32
  let v14 : BitVec 32 := Scalar.muli arg0 c2_i32_5
  let c1_i32_6 : BitVec 32 := 1#32
  let v15 : BitVec 32 := Scalar.addi v14 c1_i32_6
  let c256_i32 : BitVec 32 := 256#32
  let v34 : BitVec 32 := Scalar.muli v15 c256_i32
  ![0, v34.toNat]
def k0_off39 (i : grid0.Coords) : Fin 2 → Nat :=
  let c0_9 : Index := 0#32
  let arg0 : BitVec 32 := BitVec.ofNat 32 (i 0).val
  let c512_i32 : BitVec 32 := 512#32
  let v21 : BitVec 32 := Scalar.muli arg0 c512_i32
  let v22 : Index := Scalar.indexCast v21
  ![0, v22.toNat]
def k0_cond39 (i : grid0.Coords) : BitVec 1 :=
  let arg0 : BitVec 32 := BitVec.ofNat 32 (i 0).val
  let c7_i32 : BitVec 32 := 7#32
  let v31 : BitVec 1 := Scalar.cmpi .eq arg0 c7_i32
  let v32 : BitVec 32 := Scalar.extui v31
  let c0_i32_14 : BitVec 32 := 0#32
  let v33 : BitVec 1 := Scalar.cmpi .ne v32 c0_i32_14
  v33

def k0_cond40 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_21 : BitVec 32 := 0#32
  let v42 : BitVec 1 := Scalar.cmpi .ne v2 c0_i32_21
  let v43 : BitVec 32 := Scalar.extui v42
  let c0_i32_22 : BitVec 32 := 0#32
  let v44 : BitVec 1 := Scalar.cmpi .ne v43 c0_i32_22
  v44

def k0_off40 (d0 : Dev nD) : Fin 2 → Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v90 : BitVec 32 := Scalar.muli v2 c256_i32
  ![0, v90.toNat]
def k0_cond41 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_23 : BitVec 32 := 1#32
  let v45 : BitVec 1 := Scalar.cmpi .ne v2 c1_i32_23
  let v46 : BitVec 32 := Scalar.extui v45
  let c0_i32_24 : BitVec 32 := 0#32
  let v47 : BitVec 1 := Scalar.cmpi .ne v46 c0_i32_24
  v47

def k0_off41 (d0 : Dev nD) : Fin 2 → Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v90 : BitVec 32 := Scalar.muli v2 c256_i32
  ![0, v90.toNat]
def k0_cond42 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_25 : BitVec 32 := 2#32
  let v48 : BitVec 1 := Scalar.cmpi .ne v2 c2_i32_25
  let v49 : BitVec 32 := Scalar.extui v48
  let c0_i32_26 : BitVec 32 := 0#32
  let v50 : BitVec 1 := Scalar.cmpi .ne v49 c0_i32_26
  v50

def k0_off42 (d0 : Dev nD) : Fin 2 → Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v90 : BitVec 32 := Scalar.muli v2 c256_i32
  ![0, v90.toNat]
def k0_cond43 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v51 : BitVec 1 := Scalar.cmpi .ne v2 c3_i32
  let v52 : BitVec 32 := Scalar.extui v51
  let c0_i32_27 : BitVec 32 := 0#32
  let v53 : BitVec 1 := Scalar.cmpi .ne v52 c0_i32_27
  v53

def k0_off43 (d0 : Dev nD) : Fin 2 → Nat :=
  let c0_i32_46 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v90 : BitVec 32 := Scalar.muli v2 c256_i32
  ![0, v90.toNat]
def k0_cond44 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v54 : BitVec 1 := Scalar.cmpi .ne v2 c4_i32
  let v55 : BitVec 32 := Scalar.extui v54
  let c0_i32_28 : BitVec 32 := 0#32
  let v56 : BitVec 1 := Scalar.cmpi .ne v55 c0_i32_28
  v56

def k0_off44 (d0 : Dev nD) : Fin 2 → Nat :=
  let c0_i32_46 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v90 : BitVec 32 := Scalar.muli v2 c256_i32
  ![0, v90.toNat]
def k0_cond45 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v57 : BitVec 1 := Scalar.cmpi .ne v2 c5_i32
  let v58 : BitVec 32 := Scalar.extui v57
  let c0_i32_29 : BitVec 32 := 0#32
  let v59 : BitVec 1 := Scalar.cmpi .ne v58 c0_i32_29
  v59

def k0_off45 (d0 : Dev nD) : Fin 2 → Nat :=
  let c0_i32_46 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v90 : BitVec 32 := Scalar.muli v2 c256_i32
  ![0, v90.toNat]
def k0_cond46 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v60 : BitVec 1 := Scalar.cmpi .ne v2 c6_i32
  let v61 : BitVec 32 := Scalar.extui v60
  let c0_i32_30 : BitVec 32 := 0#32
  let v62 : BitVec 1 := Scalar.cmpi .ne v61 c0_i32_30
  v62

def k0_off46 (d0 : Dev nD) : Fin 2 → Nat :=
  let c0_i32_46 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v90 : BitVec 32 := Scalar.muli v2 c256_i32
  ![0, v90.toNat]
def k0_cond47 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_31 : BitVec 32 := 7#32
  let v63 : BitVec 1 := Scalar.cmpi .ne v2 c7_i32_31
  let v64 : BitVec 32 := Scalar.extui v63
  let c0_i32_32 : BitVec 32 := 0#32
  let v65 : BitVec 1 := Scalar.cmpi .ne v64 c0_i32_32
  v65

def k0_off47 (d0 : Dev nD) : Fin 2 → Nat :=
  let c0_i32_46 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v90 : BitVec 32 := Scalar.muli v2 c256_i32
  ![0, v90.toNat]
def k0_cond48 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v66 : BitVec 1 := Scalar.cmpi .ne v2 c8_i32
  let v67 : BitVec 32 := Scalar.extui v66
  let c0_i32_33 : BitVec 32 := 0#32
  let v68 : BitVec 1 := Scalar.cmpi .ne v67 c0_i32_33
  v68

def k0_off48 (d0 : Dev nD) : Fin 2 → Nat :=
  let c0_i32_46 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v90 : BitVec 32 := Scalar.muli v2 c256_i32
  ![0, v90.toNat]
def k0_cond49 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v69 : BitVec 1 := Scalar.cmpi .ne v2 c9_i32
  let v70 : BitVec 32 := Scalar.extui v69
  let c0_i32_34 : BitVec 32 := 0#32
  let v71 : BitVec 1 := Scalar.cmpi .ne v70 c0_i32_34
  v71

def k0_off49 (d0 : Dev nD) : Fin 2 → Nat :=
  let c0_i32_46 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v90 : BitVec 32 := Scalar.muli v2 c256_i32
  ![0, v90.toNat]
def k0_cond50 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v72 : BitVec 1 := Scalar.cmpi .ne v2 c10_i32
  let v73 : BitVec 32 := Scalar.extui v72
  let c0_i32_35 : BitVec 32 := 0#32
  let v74 : BitVec 1 := Scalar.cmpi .ne v73 c0_i32_35
  v74

def k0_off50 (d0 : Dev nD) : Fin 2 → Nat :=
  let c0_i32_46 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v90 : BitVec 32 := Scalar.muli v2 c256_i32
  ![0, v90.toNat]
def k0_cond51 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v75 : BitVec 1 := Scalar.cmpi .ne v2 c11_i32
  let v76 : BitVec 32 := Scalar.extui v75
  let c0_i32_36 : BitVec 32 := 0#32
  let v77 : BitVec 1 := Scalar.cmpi .ne v76 c0_i32_36
  v77

def k0_off51 (d0 : Dev nD) : Fin 2 → Nat :=
  let c0_i32_46 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v90 : BitVec 32 := Scalar.muli v2 c256_i32
  ![0, v90.toNat]
def k0_cond52 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v78 : BitVec 1 := Scalar.cmpi .ne v2 c12_i32
  let v79 : BitVec 32 := Scalar.extui v78
  let c0_i32_37 : BitVec 32 := 0#32
  let v80 : BitVec 1 := Scalar.cmpi .ne v79 c0_i32_37
  v80

def k0_off52 (d0 : Dev nD) : Fin 2 → Nat :=
  let c0_i32_46 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v90 : BitVec 32 := Scalar.muli v2 c256_i32
  ![0, v90.toNat]
def k0_cond53 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v81 : BitVec 1 := Scalar.cmpi .ne v2 c13_i32
  let v82 : BitVec 32 := Scalar.extui v81
  let c0_i32_38 : BitVec 32 := 0#32
  let v83 : BitVec 1 := Scalar.cmpi .ne v82 c0_i32_38
  v83

def k0_off53 (d0 : Dev nD) : Fin 2 → Nat :=
  let c0_i32_46 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v90 : BitVec 32 := Scalar.muli v2 c256_i32
  ![0, v90.toNat]
def k0_cond54 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v84 : BitVec 1 := Scalar.cmpi .ne v2 c14_i32
  let v85 : BitVec 32 := Scalar.extui v84
  let c0_i32_39 : BitVec 32 := 0#32
  let v86 : BitVec 1 := Scalar.cmpi .ne v85 c0_i32_39
  v86

def k0_off54 (d0 : Dev nD) : Fin 2 → Nat :=
  let c0_i32_46 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v90 : BitVec 32 := Scalar.muli v2 c256_i32
  ![0, v90.toNat]
def k0_cond55 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v87 : BitVec 1 := Scalar.cmpi .ne v2 c15_i32
  let v88 : BitVec 32 := Scalar.extui v87
  let c0_i32_40 : BitVec 32 := 0#32
  let v89 : BitVec 1 := Scalar.cmpi .ne v88 c0_i32_40
  v89

def k0_off55 (d0 : Dev nD) : Fin 2 → Nat :=
  let c0_i32_46 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v90 : BitVec 32 := Scalar.muli v2 c256_i32
  ![0, v90.toNat]
def k0_cond37 (i : grid0.Coords) : BitVec 1 :=
  let arg0 : BitVec 32 := BitVec.ofNat 32 (i 0).val
  let c0_i32_10 : BitVec 32 := 0#32
  let v25 : BitVec 1 := Scalar.cmpi .eq arg0 c0_i32_10
  let v26 : BitVec 32 := Scalar.extui v25
  let c0_i32_11 : BitVec 32 := 0#32
  let v27 : BitVec 1 := Scalar.cmpi .ne v26 c0_i32_11
  v27

def k0_cond38 (i : grid0.Coords) : BitVec 1 :=
  let arg0 : BitVec 32 := BitVec.ofNat 32 (i 0).val
  let c0_i32_12 : BitVec 32 := 0#32
  let v28 : BitVec 1 := Scalar.cmpi .ne arg0 c0_i32_12
  let v29 : BitVec 32 := Scalar.extui v28
  let c0_i32_13 : BitVec 32 := 0#32
  let v30 : BitVec 1 := Scalar.cmpi .ne v29 c0_i32_13
  v30

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x8192 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x8192, .fp8e4m3⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e4m3⟩
  | .local _ .vmem, ⟨1, _⟩ => ⟨S4096x8192, .fp8e4m3⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Sched.lean ====
/-
# The exchange of the blocks of `x`: cells, contents, schedule

Sixteen devices. Device `c` holds the columns `256 c … 256 c + 255` of `x` (its `x8` buffer) and needs the rows
`256 c … 256 c + 255` of every column (its `xt` buffer). Row block `d` of `c`'s `x8` is copied to columns
`256 c …` of `d`'s `xt`; the block `d = c` is stored locally.

Semaphores. `barCell c`: every other device signals it once, and by that hands `c` the columns `256 c …` of its own
`xt`. `sendCell c d` and `recvCell d c`, `d ≠ c`: the copy from `c` to `d` pays both; the first returns the source
rows to `c`, the second hands `d` the columns `256 c …` of its `xt` holding `c`'s block.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Tactic

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy, and the exchange's with duties named by devices -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## Buffers and their blocks -/

abbrev x8M : Memref sig .tc .vmem S4096x256 .fp8e4m3 := Memref.whole cc0_scratch0
abbrev xtM : Memref sig .tc .vmem S256x4096 .fp8e4m3 := Memref.whole cc0_scratch1

abbrev x8L (c : Dev nD) : Loc nD τ sig := (c : Thread nD τ).loc cc0_scratch0
abbrev xtL (c : Dev nD) : Loc nD τ sig := (c : Thread nD τ).loc cc0_scratch1

/-- A block of 256 rows of `x8`, and a block of 256 columns of `xt`, at the given offsets. -/
abbrev rowM (off : Fin 2 → Nat) (h : ∀ a, off a + S256x256.size a ≤ S4096x256.size a) : Memref sig .tc .vmem S256x256 .fp8e4m3 :=
  x8M.slice (Rect.unit (s := S4096x256) off S256x256.size h) (fun _ => rfl)
abbrev colM (off : Fin 2 → Nat) (h : ∀ a, off a + S256x256.size a ≤ S256x4096.size a) : Memref sig .tc .vmem S256x256 .fp8e4m3 :=
  xtM.slice (Rect.unit (s := S256x4096) off S256x256.size h) (fun _ => rfl)

def rowSet (d : Dev nD) : Finset S4096x256.Idx := Finset.univ.filter fun i => (i 0).val / 256 = d.val
def colSet (s : Dev nD) : Finset S256x4096.Idx := Finset.univ.filter fun i => (i 1).val / 256 = s.val

theorem rect_row {off : Fin 2 → Nat} {h} {d : Dev nD} (ho : off = ![256 * d.val, 0]) :
    (Rect.unit (s := S4096x256) off S256x256.size h).set = rowSet d := by
  subst ho
  ext i
  rw [Rect.mem_set_unit, rowSet, Finset.mem_filter, Fin.forall_fin_two]
  have h1 := (i 1).isLt
  simp only [Matrix.cons_val_zero, Matrix.cons_val_one, Finset.mem_univ, true_and] at h1 ⊢
  omega

theorem rect_col {off : Fin 2 → Nat} {h} {s : Dev nD} (ho : off = ![0, 256 * s.val]) :
    (Rect.unit (s := S256x4096) off S256x256.size h).set = colSet s := by
  subst ho
  ext i
  rw [Rect.mem_set_unit, colSet, Finset.mem_filter, Fin.forall_fin_two]
  have h1 := (i 0).isLt
  simp only [Matrix.cons_val_zero, Matrix.cons_val_one, Finset.mem_univ, true_and] at h1 ⊢
  omega

theorem rowM_set {off : Fin 2 → Nat} {h} {d : Dev nD} (ho : off = ![256 * d.val, 0]) : (rowM off h).view.set = rowSet d :=
  (View.set_slice_whole cc0_scratch0 _).trans (rect_row ho)
theorem colM_set {off : Fin 2 → Nat} {h} {s : Dev nD} (ho : off = ![0, 256 * s.val]) : (colM off h).view.set = colSet s :=
  (View.set_slice_whole cc0_scratch1 _).trans (rect_col ho)

/-! ## Contents -/

/-- What device `c`'s `x8` holds: its block of `x`, as launched. -/
def X8 (c : Dev nD) : S4096x256.Idx → Elt F .fp8e4m3 := m ((c : Thread nD τ).loc main_arg0)

/-- What device `c`'s `xt` ends holding: columns `256 s …` are the rows `256 c …` of device `s`'s block. -/
def XT (c : Dev nD) : S256x4096.Idx → Elt F .fp8e4m3 := fun i =>
  X8 m ⟨(i 1).val / 256, by have h : (i 1).val < 4096 := (i 1).isLt; show _ < 16; omega⟩
    (Shape.pair (d := ![4096, 256])
      ⟨256 * c.val + (i 0).val, by have h : (i 0).val < 256 := (i 0).isLt; have : c.val < 16 := c.isLt; show _ < 4096; omega⟩
      ⟨(i 1).val % 256, by show _ < 256; omega⟩)

/-- `XT` at an index whose column lies in block `s`. -/
theorem XT_at (c s : Dev nD) (i : S256x4096.Idx) (k : S4096x256.Idx) (hs : (i 1).val / 256 = s.val)
    (h0 : (k 0).val = 256 * c.val + (i 0).val) (h1 : (k 1).val = (i 1).val % 256) : XT m c i = X8 m s k := by
  unfold XT
  have e : ∀ h, (⟨(i 1).val / 256, h⟩ : Dev nD) = s := fun h => Fin.ext hs
  rw [e]
  refine congrArg (X8 m s) (funext fun a => ?_)
  match a with
  | ⟨0, _⟩ => exact Fin.ext h0.symm
  | ⟨1, _⟩ => exact Fin.ext h1.symm

/-- The block a copy writes: under the copy's destination columns of device `d`'s `xt`, what device `c`'s rows hold. -/
theorem landed_eq (c d : Dev nD) {off off' : Fin 2 → Nat} {h h'} (ho : off = ![256 * d.val, 0]) (ho' : off' = ![0, 256 * c.val])
    (fd : S256x4096.Idx → Elt F .fp8e4m3) :
    ∀ i ∈ colSet c, (colM off' h').view.write (Elt F) fd ((rowM off h).view.read (Elt F) (X8 m c)) Finset.univ i = XT m d i := by
  intro i hi
  rw [← colM_set (h := h') ho', View.set, Finset.mem_map] at hi
  obtain ⟨j, -, rfl⟩ := hi
  rw [View.write_emb_of_mem _ _ (Finset.mem_univ j), View.read_apply]
  subst ho ho'
  have h1 : (j 1).val < 256 := (j 1).isLt
  refine ((XT_at m d c _ ((rowM ![256 * d.val, 0] h).view.emb j) ?_ ?_ ?_).trans ?_).symm
  · show (256 * c.val + 1 * (j 1).val) / 256 = c.val; omega
  · show 256 * d.val + 1 * (j 0).val = 256 * d.val + (0 + 1 * (j 0).val); omega
  · show 0 + 1 * (j 1).val = (256 * c.val + 1 * (j 1).val) % 256; omega
  · rfl

/-- Device `c` owns the elements `S` of its `x8`, or `xt`, with contents `f`. -/
def x8At (c : Dev nD) (S : Finset S4096x256.Idx) (f : S4096x256.Idx → Elt F .fp8e4m3) : sProp 𝕄 := x8L c ↦[S]{fullShare} f
def xtAt (c : Dev nD) (S : Finset S256x4096.Idx) (f : S256x4096.Idx → Elt F .fp8e4m3) : sProp 𝕄 := xtL c ↦[S]{fullShare} f

omit [FloatOps F] in
instance x8At_storable (c : Dev nD) (S) (f) : BI.Storable (upEmb : UEmb _ 𝕄) (x8At (F := F) c S f) := by unfold x8At; infer_instance
omit [FloatOps F] in
instance xtAt_storable (c : Dev nD) (S) (f) : BI.Storable (upEmb : UEmb _ 𝕄) (xtAt (F := F) c S f) := by unfold xtAt; infer_instance

omit [FloatOps F] in
theorem xtAt_congr (c : Dev nD) {S} {f g : S256x4096.Idx → Elt F .fp8e4m3} (h : ∀ i ∈ S, f i = g i) :
    (xtAt c S f : sProp 𝕄) = xtAt c S g := pointsTo_congr h

/-! ## Semaphores and cells -/

abbrev barS : Sem sig := (SemArray.scalar (sig.barrier 0 rfl) : Sems sig S_).sem
abbrev sendS (d : Dev nD) : DmaSem sig := ⟨6 + d.val, by have : d.val < 16 := d.isLt; show _ < 38; omega⟩
abbrev recvS (s : Dev nD) : DmaSem sig := ⟨22 + s.val, by have : s.val < 16 := s.isLt; show _ < 38; omega⟩

abbrev barCell (c : Dev nD) : GSem nD τ sig := ((c : Thread nD τ), .reg barS)
abbrev sendCell (c d : Dev nD) : GSem nD τ sig := ((c : Thread nD τ), .dma (sendS d))
abbrev recvCell (c s : Dev nD) : GSem nD τ sig := ((c : Thread nD τ), .dma (recvS s))

/-- The semaphores of a device: its barrier semaphore, a send and a receive semaphore for each device. -/
abbrev K2 : Type := Dev nD ⊕ Dev nD
abbrev J : Type := Unit ⊕ K2
/-- The kernel's own semaphores, as the launch indexes them; -/
abbrev osem : K2 → SemLoc sig := fun
  | .inl d => .dma (sendS d)
  | .inr s => .dma (recvS s)
/-- all of the exchange's. -/
abbrev csem : J → SemLoc sig := fun
  | .inl _ => .reg barS
  | .inr k => osem k
abbrev kcell (p : Dev nD × J) : GSem nD τ sig := ((p.1 : Thread nD τ), csem p.2)

/-- Which of the exchange's a semaphore is. -/
def decode : SemLoc sig → Option J
  | .reg s => if s = barS then some (.inl ()) else none
  | .dma q =>
    if h : 6 ≤ q.val ∧ q.val < 22 then some (.inr (.inl ⟨q.val - 6, by show _ < 16; omega⟩))
    else if h : 22 ≤ q.val ∧ q.val < 38 then some (.inr (.inr ⟨q.val - 22, by show _ < 16; omega⟩))
    else none

theorem decode_csem (j : J) : decode (csem j) = some j := by revert j; decide

theorem csem_inj : Function.Injective csem := fun a b h => Option.some.inj ((decode_csem a).symm.trans ((congrArg decode h).trans (decode_csem b)))
theorem kcell_inj : Function.Injective kcell := fun a b h =>
  Prod.ext (congrArg (fun t : Thread nD τ => t.1) (Prod.mk.inj h).1) (csem_inj (Prod.mk.inj h).2)

/-- The semaphore of an array of sixteen under the one-element slice at offset `k`. -/
theorem sendSem_eq {off : Fin 1 → Nat} {h h'} {d : Dev nD} (ho : off = ![d.val]) :
    ((cc0_scratch2.slice (Rect.unit (s := S16) off S1.size h)).squeeze S_ h').sem = sendS d := by
  subst ho; revert h h'; revert d; decide
theorem recvSem_eq {off : Fin 1 → Nat} {h h'} {d : Dev nD} (ho : off = ![d.val]) :
    ((cc0_scratch3.slice (Rect.unit (s := S16) off S1.size h)).squeeze S_ h').sem = recvS d := by
  subst ho; revert h h'; revert d; decide

/-- The bytes of a block: what a copy of one pays. -/
abbrev N : ℕ := (colM ![0, 0] (by decide)).view.dmaCredit
theorem amt_col {off : Fin 2 → ℕ} (h) : (colM off h).view.dmaCredit = N := rfl
theorem amt_row {off : Fin 2 → ℕ} (h) : (rowM off h).view.dmaCredit = N := by
  show sig.dmaCredit _ _ _ _ _ = sig.dmaCredit _ _ _ _ _
  dsimp only [sig]
theorem N_pos : 0 < N := View.dmaCredit_pos _ (by decide)

/-! ## The schedule: one round -/

/-- Who pays device `c`'s cell: its barrier cell every other device, the cells of a copy the one device, none for the
    two cells that name `c` itself. -/
def dutyOf (c : Dev nD) : J → Finset (Dev nD)
  | .inl _ => Finset.univ.erase c
  | .inr (.inl d) => if d = c then ∅ else {d}
  | .inr (.inr s) => if s = c then ∅ else {s}

/-- What a payment hands over. -/
def payOf (c : Dev nD) (j : J) (d : Dev nD) : sProp 𝕄 := match j with
  | .inl _ => iprop(∃ f, xtAt d (colSet c) f)
  | .inr (.inl e) => x8At c (rowSet e) (X8 m c)
  | .inr (.inr s) => xtAt c (colSet s) (XT m c)

def amtOf : J → ℕ
  | .inl _ => 1
  | .inr _ => N

instance payOf_storable (c : Dev nD) (j : J) (d : Dev nD) : BI.Storable (upEmb : UEmb _ 𝕄) (payOf (F := F) m c j d) := by
  match j with
  | .inl _ => show BI.Storable _ (iprop(∃ f, xtAt d (colSet c) f)); infer_instance
  | .inr (.inl e) => show BI.Storable _ (x8At c (rowSet e) (X8 m c)); infer_instance
  | .inr (.inr s) => show BI.Storable _ (xtAt c (colSet s) (XT m c)); infer_instance

def xRd : Rounds.Schedule (GSem nD τ sig) (Dev nD) 𝕄 where
  duties g r := if r = 0 ∧ g.1.2 = .tc then (match decode g.2 with | none => ∅ | some j => dutyOf g.1.1 j) else ∅
  unitless _ := False
  amount g _ _ := match decode g.2 with | none => 1 | some j => amtOf j
  payload g _ d := match decode g.2 with | none => iprop(emp) | some j => payOf m g.1.1 j d
  amount_pos g _ _ _ := by
    cases decode g.2 with
    | none => exact Nat.one_pos
    | some j =>
      match j with
      | .inl _ => exact Nat.one_pos
      | .inr _ => exact N_pos

instance xRd_payload_storable (g : GSem nD τ sig) (r : ℕ) (d : Dev nD) :
    BI.Storable (upEmb : UEmb _ 𝕄) ((xRd (F := F) m).payload g r d) := by
  show BI.Storable upEmb (match decode g.2 with | none => iprop(emp) | some j => payOf m g.1.1 j d)
  cases decode g.2 with
  | none => infer_instance
  | some j => show BI.Storable upEmb (payOf m g.1.1 j d); infer_instance

section Lemmas
variable (c : Dev nD) (j : J)

omit [FloatOps F] in
theorem duties_at : (xRd (F := F) m).duties (kcell (c, j)) 0 = dutyOf c j := by
  dsimp only [xRd]; rw [if_pos ⟨rfl, rfl⟩, decode_csem]
omit [FloatOps F] in
theorem amount_at (d : Dev nD) : (xRd (F := F) m).amount (kcell (c, j)) 0 d = amtOf j := by
  dsimp only [xRd]; rw [decode_csem]
omit [FloatOps F] in
theorem payload_at (d : Dev nD) : (xRd (F := F) m).payload (kcell (c, j)) 0 d = payOf m c j d := by
  dsimp only [xRd]; rw [decode_csem]
omit [FloatOps F] in
theorem duties_later (g : GSem nD τ sig) : ∀ r, 1 ≤ r → (xRd (F := F) m).duties g r = ∅ :=
  fun r hr => by dsimp only [xRd]; rw [if_neg fun h => by omega]
omit [FloatOps F] in
theorem expect_at : (xRd (F := F) m).expect (kcell (c, j)) 0 = (dutyOf c j).card * amtOf j := by
  unfold Schedule.expect Schedule.amountOf
  rw [duties_at, Finset.sum_congr rfl fun d _ => amount_at m c j d, Finset.sum_const, smul_eq_mul]
omit [FloatOps F] in
theorem rest_at : bigSep ((xRd (F := F) m).duties (kcell (c, j)) 0 \ ∅) (fun d => (xRd (F := F) m).payload (kcell (c, j)) 0 d)
    = bigSep (dutyOf c j) (fun d => payOf m c j d) := by
  rw [Finset.sdiff_empty, duties_at]; exact bigSep_congr fun d _ => payload_at m c j d
theorem duty_bar {d : Dev nD} (h : c ≠ d) : c ∈ (xRd (F := F) m).duties ((d : Thread nD τ), .reg barS) 0 := by
  have e := duties_at (F := F) m d (.inl ())
  dsimp only [kcell, csem] at e
  rw [e]; exact Finset.mem_erase.mpr ⟨h, Finset.mem_univ _⟩
theorem duty_send {d : Dev nD} (h : d ≠ c) : d ∈ (xRd (F := F) m).duties ((c : Thread nD τ), .dma (sendS d)) 0 := by
  have e := duties_at (F := F) m c (.inr (.inl d))
  dsimp only [kcell, csem, dutyOf] at e
  rw [e, if_neg h]; exact Finset.mem_singleton_self _
theorem duty_recv {d : Dev nD} (h : c ≠ d) : c ∈ (xRd (F := F) m).duties ((d : Thread nD τ), .dma (recvS c)) 0 := by
  have e := duties_at (F := F) m d (.inr (.inr c))
  dsimp only [kcell, csem, dutyOf] at e
  rw [e, if_neg h]; exact Finset.mem_singleton_self _
theorem rest_bar : bigSep ((xRd (F := F) m).duties (barCell c) 0 \ ∅) (fun d => (xRd (F := F) m).payload (barCell c) 0 d)
    = bigSep (Finset.univ.erase c) (fun d => iprop(∃ f, xtAt d (colSet c) f)) := rest_at m c (.inl ())
theorem rest_send {d : Dev nD} (h : d ≠ c) : bigSep ((xRd (F := F) m).duties (sendCell c d) 0 \ ∅) (fun e => (xRd (F := F) m).payload (sendCell c d) 0 e)
    = x8At c (rowSet d) (X8 m c) := by
  refine (rest_at m c (.inr (.inl d))).trans ?_
  dsimp only [dutyOf]; rw [if_neg h, bigSep_singleton]; rfl
theorem rest_recv {s : Dev nD} (h : s ≠ c) : bigSep ((xRd (F := F) m).duties (recvCell c s) 0 \ ∅) (fun e => (xRd (F := F) m).payload (recvCell c s) 0 e)
    = xtAt c (colSet s) (XT m c) := by
  refine (rest_at m c (.inr (.inr s))).trans ?_
  dsimp only [dutyOf]; rw [if_neg h, bigSep_singleton]; rfl
theorem pay_bar (d : Dev nD) : iprop(∃ f, xtAt (F := F) c (colSet d) f) ⊢ (xRd m).payload ((d : Thread nD τ), .reg barS) 0 c :=
  Entails.of_eq (payload_at m d (.inl ()) c).symm
theorem pay_send (d : Dev nD) : x8At (F := F) c (rowSet d) (X8 m c) ⊢ (xRd m).payload ((c : Thread nD τ), .dma (sendS d)) 0 d :=
  Entails.of_eq (payload_at m c (.inr (.inl d)) d).symm
theorem pay_recv (d : Dev nD) : xtAt (F := F) d (colSet c) (XT m d) ⊢ (xRd m).payload ((d : Thread nD τ), .dma (recvS c)) 0 c :=
  Entails.of_eq (payload_at m d (.inr (.inr c)) c).symm
theorem amount_send (d e : Dev nD) : (xRd (F := F) m).amount ((c : Thread nD τ), .dma (sendS d)) 0 e = N := amount_at m c (.inr (.inl d)) e
theorem amount_recv (d e : Dev nD) : (xRd (F := F) m).amount ((c : Thread nD τ), .dma (recvS d)) 0 e = N := amount_at m c (.inr (.inr d)) e
theorem expect_bar : (xRd (F := F) m).expect (barCell c) 0 = 15 := by
  rw [show barCell c = kcell (c, .inl ()) from rfl, expect_at]
  show (Finset.univ.erase c).card * 1 = 15
  rw [Finset.card_erase_of_mem (Finset.mem_univ _), Finset.card_univ, Fintype.card_fin]
  rfl
theorem expect_send {d : Dev nD} (h : d ≠ c) : (xRd (F := F) m).expect (sendCell c d) 0 = N := by
  rw [show sendCell c d = kcell (c, .inr (.inl d)) from rfl, expect_at]
  show (if d = c then ∅ else {d} : Finset (Dev nD)).card * N = N
  rw [if_neg h, Finset.card_singleton, one_mul]
theorem expect_recv {s : Dev nD} (h : s ≠ c) : (xRd (F := F) m).expect (recvCell c s) 0 = N := by
  rw [show recvCell c s = kcell (c, .inr (.inr s)) from rfl, expect_at]
  show (if s = c then ∅ else {s} : Finset (Dev nD)).card * N = N
  rw [if_neg h, Finset.card_singleton, one_mul]

end Lemmas

end Cert.KernelIdeal.Hand
-- ==== Proof.Steps.lean ====
/-
# One step of each phase

Each phase goes over the devices in order and skips the device it runs on. `rem c k`: the devices from `k` on that are
still to come; `dn c k`: those before `k`. A phase's state at `k` holds one resource for each device still to come and
another for each device done. The lemmas here take one conditional step `if c ≠ k then … ` of a phase.
-/
module

public import proofs.«01_k».proof.Proof.Sched

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ UU ℕ

/-! ## Sums over a set, in the proof mode's connectives -/

section Sums
variable {M : Type*} [Idealize.SL.RA.URA M] {I : Type} [DecidableEq I] {s t : Finset I} {Φ : I → sProp M}

theorem bs_insert {i : I} (h : i ∉ s) : bigSep (insert i s) Φ = iprop(Φ i ∗ bigSep s Φ) := bigSep_insert h
theorem bs_union (h : Disjoint s t) : bigSep (s ∪ t) Φ = iprop(bigSep s Φ ∗ bigSep t Φ) := bigSep_union h
theorem bs_mem {i : I} (h : i ∈ s) : (bigSep s Φ : sProp M) ⊢ Φ i := bigSep_elim h
theorem bs_none : (bigSep (∅ : Finset I) Φ : sProp M) = iprop(emp) := bigSep_empty
end Sums

/-! ## Devices to come and devices done -/

def rem (c : Dev nD) (k : ℕ) : Finset (Dev nD) := Finset.univ.filter fun d => k ≤ d.val ∧ d ≠ c
def dn (c : Dev nD) (k : ℕ) : Finset (Dev nD) := Finset.univ.filter fun d => d.val < k ∧ d ≠ c

theorem rem_skip (c : Dev nD) : rem c (c.val + 1) = rem c c.val := by revert c; decide
theorem dn_skip (c : Dev nD) : dn c (c.val + 1) = dn c c.val := by revert c; decide
theorem not_mem_rem (c d : Dev nD) : d ∉ rem c (d.val + 1) := by revert c d; decide
theorem not_mem_dn (c d : Dev nD) : d ∉ dn c d.val := by revert c d; decide
theorem rem_step {c d : Dev nD} (h : d ≠ c) : rem c d.val = insert d (rem c (d.val + 1)) := by revert c d; decide
theorem dn_step {c d : Dev nD} (h : d ≠ c) : dn c (d.val + 1) = insert d (dn c d.val) := by revert c d; decide
theorem rem_zero (c : Dev nD) : rem c 0 = Finset.univ.erase c := by revert c; decide
theorem rem_last (c : Dev nD) : rem c 16 = ∅ := by revert c; decide
theorem dn_zero (c : Dev nD) : dn c 0 = ∅ := by revert c; decide
theorem dn_last (c : Dev nD) : dn c 16 = Finset.univ.erase c := by revert c; decide

/-! ## What a device owes -/

def barDue (c : Dev nD) (k : ℕ) : CellTallies nD τ sig Unit := ∑ d ∈ rem c k, tallyAt (barCell d) () 1
def recvDue (c : Dev nD) (k : ℕ) : CellTallies nD τ sig Unit := ∑ d ∈ rem c k, tallyAt (recvCell d c) () N
/-- at launch. -/
def due (c : Dev nD) : CellTallies nD τ sig Unit := barDue c 0 + recvDue c 0

theorem barDue_skip (c : Dev nD) : barDue c (c.val + 1) = barDue c c.val := by unfold barDue; rw [rem_skip]
theorem recvDue_skip (c : Dev nD) : recvDue c (c.val + 1) = recvDue c c.val := by unfold recvDue; rw [rem_skip]
theorem barDue_step {c d : Dev nD} (h : d ≠ c) : barDue c d.val = barDue c (d.val + 1) + tallyAt (barCell d) () 1 := by
  unfold barDue; rw [rem_step h, Finset.sum_insert (not_mem_rem c d), add_comm]
theorem recvDue_step {c d : Dev nD} (h : d ≠ c) : recvDue c d.val = recvDue c (d.val + 1) + tallyAt (recvCell d c) () N := by
  unfold recvDue; rw [rem_step h, Finset.sum_insert (not_mem_rem c d), add_comm]
theorem barDue_last (c : Dev nD) : barDue c 16 = 0 := by unfold barDue; rw [rem_last]; rfl
theorem recvDue_last (c : Dev nD) : recvDue c 16 = 0 := by unfold recvDue; rw [rem_last]; rfl

/-- Levels: barrier cells below receive cells, every other semaphore below both. -/
def L (g : GSem nD τ sig) : Finset Unit := if g.1.2 = .tc then {()} else ∅
def lv (g : GSem nD τ sig) (_ : Unit) : ℕ := match decode g.2 with
  | some (.inl _) => 1
  | some (.inr (.inr _)) => 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by unfold lv; rw [show decode (barCell c).2 = _ from decode_csem (.inl ())]
theorem lv_recv (c s : Dev nD) (u : Unit) : lv (recvCell c s) u = 2 := by unfold lv; rw [show decode (recvCell c s).2 = _ from decode_csem (.inr (.inr s))]

theorem sum_tally_pos {ι : Type} (S : Finset ι) (cell : ι → GSem nD τ sig) (n : ℕ) {g : GSem nD τ sig} {u : Unit}
    (h : 0 < (∑ d ∈ S, tallyAt (cell d) () n : CellTallies nD τ sig Unit) g u) : ∃ d ∈ S, g = cell d := by
  classical
  by_contra hn
  push Not at hn
  rw [Finset.sum_apply, Finsupp.finset_sum_apply, Finset.sum_eq_zero fun d hd => by
    rw [tallyAt_apply, if_neg fun h' => hn d hd h'.1]] at h
  exact Nat.lt_irrefl 0 h

theorem barDue_pos {c : Dev nD} {k : ℕ} {g : GSem nD τ sig} {u : Unit} (h : 0 < barDue c k g u) : ∃ d, g = barCell d := by
  obtain ⟨d, -, e⟩ := sum_tally_pos _ (fun d => barCell d) 1 h; exact ⟨d, e⟩
theorem recvDue_pos {c : Dev nD} {k : ℕ} {g : GSem nD τ sig} {u : Unit} (h : 0 < recvDue c k g u) : ∃ d, g = recvCell d c := by
  obtain ⟨d, -, e⟩ := sum_tally_pos _ (fun d => recvCell d c) N h; exact ⟨d, e⟩
theorem due_pos {c : Dev nD} {g : GSem nD τ sig} {u : Unit} (h : 0 < due c g u) : (∃ d, g = barCell d) ∨ ∃ d, g = recvCell d c := by
  unfold due at h
  rw [Pi.add_apply, Finsupp.add_apply] at h
  rcases Nat.eq_zero_or_pos (barDue c 0 g u) with h0 | h0
  · rw [h0, Nat.zero_add] at h; exact .inr (recvDue_pos h)
  · exact .inl (barDue_pos h0)

omit [FloatOps F] in
/-- A wait on one of the pipeline's own semaphores is allowed whatever of the exchange is owed. -/
theorem mayWait_stage (c : Dev nD) (q : DmaSem sig) (hq : decode (.dma q) = none) (O : CellTallies nD τ sig Unit) (hO : O = due c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases due_pos hg with ⟨d, rfl⟩ | ⟨d, rfl⟩ <;> exact Finset.mem_singleton_self _)
      (fun p hp => by rw [Finset.mem_singleton.mp hp]; dsimp only [lv]; rw [hq])
      (fun g u hg => by
        rcases due_pos hg with ⟨d, rfl⟩ | ⟨d, rfl⟩
        · rw [lv_bar]; decide
        · rw [lv_recv]; decide)
  · rw [MayWait_zero]; iintro -; iempintro

omit [FloatOps F] in
/-- At its barrier wait a device owes receive credits only. -/
theorem mayWait_bar (c : Dev nD) (k : ℕ) :
    (levAts L lv : sProp 𝕄) ⊢ MayWait (c : Thread nD τ) (.reg barS) () (recvDue c k) :=
  MayOwe.of_cut (L := L) (lev := lv) 1 (fun p hp => by rw [Finset.mem_singleton.mp hp, L_tc]; exact Finset.mem_singleton_self _)
    (fun g u hg => by obtain ⟨d, rfl⟩ := recvDue_pos hg; exact Finset.mem_singleton_self _)
    (fun p hp => by rw [Finset.mem_singleton.mp hp]; exact (lv_bar c ()).le)
    (fun g u hg => by obtain ⟨d, rfl⟩ := recvDue_pos hg; rw [lv_recv]; decide)

/-! ## The cells' invariants -/

/-- Every cell's invariant, at some name each, and that every cell has reached round 0. -/
def records (K : Dev nD × J → ℕ) : sProp 𝕄 :=
  bigSep Finset.univ fun p : Dev nD × J => iprop(cellInv ER (xRd m) (K p) (kcell p) ∗ reached ER (kcell p) 0)

instance records_persistent (K : Dev nD × J → ℕ) : BI.Persistent (records m K) := by unfold records; infer_instance

omit [FloatOps F] in
theorem records_at (K : Dev nD × J → ℕ) (p : Dev nD × J) :
    records m K ⊢ iprop(cellInv ER (xRd m) (K p) (kcell p) ∗ reached ER (kcell p) 0) := by
  unfold records; exact bs_mem (Finset.mem_univ p)

section Steps

variable (K : Dev nD × J → ℕ) (c : Dev nD)

abbrev 𝒱₀ : Variants := Variants.none

/-! ### The entry barrier -/

def sigA (d : Dev nD) : sProp 𝕄 := iprop(dutyTok ER (barCell d) 0 c ∗ ∃ f, xtAt c (colSet d) f)

/-- The state of the signalling phase: its token and its columns for every device still to signal. -/
def sigSt (k : ℕ) : sProp 𝕄 :=
  iprop(records m K ∗ bigSep (rem c k) (sigA c) ∗ ∃ W, owes (c : Thread nD τ) (barDue c k + recvDue c 0) W)

theorem sig_jp (d : Dev nD) {cond : BitVec 1} (hc : cond = 1#1 ↔ d ≠ c) {n : ℕ} {hn : cond = 1#1 → n < nD} (hnd : n = d.val)
    {R : sProp 𝕄} {α : Type} {Q : α → sProp 𝕄} {Jp : Prog (TpuEff nD τ sig (Elt F) Λ₀ .tc) α}
    (hJ : iprop(sigSt m K c (d.val + 1) ∗ R) ⊢ wp frame (wpE (defs₀ (F := F)) 𝒱₀ (c : Thread nD τ) none) Set.univ Jp Q) :
    iprop(sigSt m K c d.val ∗ R)
      ⊢ wp frame (wpE (defs₀ (F := F)) 𝒱₀ (c : Thread nD τ) none) Set.univ (if h : cond = 1#1 then (semSignalWord (⟨n, hn h⟩ : Dev nD) barS 1#32 >>= fun _ => Jp) else Jp) Q := by
  by_cases h : cond = 1#1
  · rw [dif_pos h]
    have hd : d ≠ c := hc.mp h
    have e : (⟨n, hn h⟩ : Dev nD) = d := Fin.ext hnd
    rw [e]
    simp only [semSignalWord, Prog.bind_op, Prog.bind_ret]
    unfold sigSt
    rw [rem_step hd, bs_insert (not_mem_rem c d), barDue_step hd]
    iintro ⟨⟨#Hrec, ⟨HA, HB⟩, ⟨%W, HO⟩⟩, HR⟩
    ihave #HI := (records_at m K (d, .inl ())) $$ Hrec
    icases HI with ⟨#Hinv, #Hreach⟩
    unfold sigA
    icases HA with ⟨Htok, Hpay⟩
    iapply (Rounds.wp_signal 𝒱₀ ER (xRd m) (c : Thread nD τ) none (dst := (d : Thread nD τ)) (κ := K (d, .inl ()))
        (d := c) (duty_bar m c hd.symm)
        ((amount_at m d (.inl ()) c).trans (by decide)) () (barDue c (d.val + 1) + recvDue c 0) (add_right_comm _ _ _))
      $$ [HO Htok Hpay]
    · isplitr; · iexact Hinv
      isplitl [HO]; · iexact HO
      isplitl [Htok]; · iexact Htok
      isplitl [Hpay]
      · iapply (pay_bar m c d); iexact Hpay
      iexact Hreach
    iintro HO
    iapply hJ
    unfold sigSt
    isplitr [HR]
    · isplitr; · iexact Hrec
      isplitl [HB]; · iexact HB
      iexists W; iexact HO
    · iexact HR
  · have hd : d = c := by by_contra h'; exact h (hc.mpr h')
    rw [dif_neg h]
    subst hd
    refine (Entails.of_eq ?_).trans hJ
    unfold sigSt
    rw [rem_skip, barDue_skip]

end Steps

end Cert.KernelIdeal.Hand
-- ==== Proof.Send.lean ====
/-
# One step of the sending phase
-/
module

public import proofs.«01_k».proof.Proof.Steps

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ UU ℕ

section Steps

variable (K : Dev nD × J → ℕ) (c : Dev nD)

/-! ### The copies -/

def sendA (d : Dev nD) : sProp 𝕄 :=
  iprop(x8At c (rowSet d) (X8 m c) ∗ (∃ f, xtAt d (colSet c) f) ∗ dutyTok ER (sendCell c d) 0 d ∗ dutyTok ER (recvCell d c) 0 c)
def sendB (d : Dev nD) : sProp 𝕄 := cred (tallyAt (sendCell c d) () N)

/-- The state of the sending phase: for every device still to send to, the rows, the columns they go to and the two
    tokens; for every device sent to, the credit its send semaphore is waited for with. -/
def sendSt (k : ℕ) : sProp 𝕄 :=
  iprop(records m K ∗ bigSep (rem c k) (sendA m c) ∗ bigSep (dn c k) (sendB c) ∗ ∃ W, owes (c : Thread nD τ) (recvDue c k) W)

/-- One copy: the rows for device `d` go to its columns for `c`. -/
theorem wp_send_one (d : Dev nD) (hd : d ≠ c) {off₀ off₁ : Fin 2 → ℕ} {inb₀ inb₁} (h₀ : off₀ = ![256 * d.val, 0]) (h₁ : off₁ = ![0, 256 * c.val])
    {hsrc : (rowM off₀ inb₀).view.WordExact} {hdst : (colM off₁ inb₁).view.WordExact}
    {hsc : (colM off₁ inb₁ : Memref sig (Dev.tc d : Thread nD τ).2.kind .vmem S256x256 .fp8e4m3).view.ref.isScScratch = false}
    {hsem : DmaTarget.Typed .vmem (.dma (recvS c)) (.remote (Dev.tc d : Thread nD τ) (colM off₁ inb₁) (.dma (sendS d)) hsc)}
    {α : Type} {Q : α → sProp 𝕄} {k : PUnit → Prog (TpuEff nD τ sig (Elt F) Λ₀ .tc) α} (fd : S256x4096.Idx → Elt F .fp8e4m3)
    (O : CellTallies nD τ sig Unit) (W : Waits sig Unit) :
    iprop(cellInv ER (xRd m) (K (c, .inr (.inl d))) (sendCell c d) ∗ cellInv ER (xRd m) (K (d, .inr (.inr c))) (recvCell d c)
        ∗ x8At c (rowSet d) (X8 m c) ∗ xtAt d (colSet c) fd
        ∗ owes (c : Thread nD τ) (O + tallyAt (recvCell d c) () N) W
        ∗ dutyTok ER (sendCell c d) 0 d ∗ reached ER (sendCell c d) 0
        ∗ dutyTok ER (recvCell d c) 0 c ∗ reached ER (recvCell d c) 0)
      ⊢ iprop(((cred (tallyAt (sendCell c d) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowM off₀ inb₀) (.remote (Dev.tc d : Thread nD τ) (colM off₁ inb₁) (.dma (sendS d)) hsc) (.dma (recvS c)) hsrc hdst hsem) k) Q) := by
  have es : (rowM off₀ inb₀).view.set = rowSet d := rowM_set h₀
  have ed : (colM off₁ inb₁).view.set = colSet c := colM_set h₁
  have hp₁ := pay_send m c d
  have hp₂ : xtAt d (colSet c) ((colM off₁ inb₁).view.write (Elt F) fd ((rowM off₀ inb₀).view.read (Elt F) (X8 m c)) Finset.univ)
      ⊢ (xRd m).payload ((d : Thread nD τ), .dma (recvS c)) 0 c :=
    (Entails.of_eq (xtAt_congr d (landed_eq m c d h₀ h₁ fd))).trans (pay_recv m c d)
  unfold x8At at hp₁ ⊢
  unfold xtAt at hp₂ ⊢
  rw [← es] at hp₁ ⊢
  rw [← ed] at hp₂ ⊢
  exact Rounds.wp_send_pointsTo 𝒱₀ ER (xRd m) (c : Thread nD τ) none (κ₁ := K (c, .inr (.inl d))) (κ₂ := K (d, .inr (.inr c)))
    (c' := (d : Thread nD τ)) (src := rowM off₀ inb₀) (dst := colM off₁ inb₁) (sS := .dma (sendS d)) (sem := .dma (recvS c))
    (hsc := hsc) (hsrc := hsrc) (hdst := hdst) (hsem := hsem) (k := k) (Q := Q) (q := fullShare)
    (r₁ := 0) (r₂ := 0) (d₁ := d) (d₂ := c) (fd := fd) (fs := X8 m c)
    (duty_send m c hd) (duty_recv m c hd.symm) () () N (amt_col inb₁) (amount_send m c d d) (amount_recv m d c c) O rfl (W := W) hp₁ hp₂

theorem send_jp (d : Dev nD) {cond : BitVec 1} (hc : cond = 1#1 ↔ d ≠ c) {n : ℕ} {hn : cond = 1#1 → n < nD} (hnd : n = d.val)
    {off₀ off₁ : Fin 2 → ℕ} {off₂ off₃ : Fin 1 → ℕ} {inb₀} {inb₁ : cond = 1#1 → _} {inb₂} {inb₃ : cond = 1#1 → _} {sq₂ : S1.Squeezes S_} {sq₃ : S1.Squeezes S_}
    (h₀ : off₀ = ![256 * d.val, 0]) (h₁ : off₁ = ![0, 256 * c.val]) (h₂ : off₂ = ![d.val]) (h₃ : off₃ = ![c.val])
    {hsrc : (rowM off₀ inb₀).view.WordExact} {hdst : ∀ h : cond = 1#1, (colM off₁ (inb₁ h)).view.WordExact}
    {hsc : ∀ h : cond = 1#1, (colM off₁ (inb₁ h)).view.ref.isScScratch = false}
    {hsem : ∀ h : cond = 1#1, DmaTarget.Typed .vmem (.dma ((cc0_scratch3.slice (Rect.unit (s := S16) off₃ S1.size (inb₃ h))).squeeze S_ sq₃).sem)
      (.remote (Dev.tc (⟨n, hn h⟩ : Dev nD)) (colM off₁ (inb₁ h)) (.dma ((cc0_scratch2.slice (Rect.unit (s := S16) off₂ S1.size inb₂)).squeeze S_ sq₂).sem) (hsc h))}
    {R : sProp 𝕄} {α : Type} {Q : α → sProp 𝕄} {Jp : Prog (TpuEff nD τ sig (Elt F) Λ₀ .tc) α}
    (hJ : iprop(sendSt m K c (d.val + 1) ∗ R) ⊢ wp frame (wpE (defs₀ (F := F)) 𝒱₀ (c : Thread nD τ) none) Set.univ Jp Q) :
    iprop(sendSt m K c d.val ∗ R)
      ⊢ wp frame (wpE (defs₀ (F := F)) 𝒱₀ (c : Thread nD τ) none) Set.univ (if h : cond = 1#1 then
          (Prog.lift (.enqueueDma (rowM off₀ inb₀)
            (.remote (Dev.tc (⟨n, hn h⟩ : Dev nD)) (colM off₁ (inb₁ h)) (.dma ((cc0_scratch2.slice (Rect.unit (s := S16) off₂ S1.size inb₂)).squeeze S_ sq₂).sem) (hsc h))
            (.dma ((cc0_scratch3.slice (Rect.unit (s := S16) off₃ S1.size (inb₃ h))).squeeze S_ sq₃).sem) hsrc (hdst h) (hsem h)) >>= fun _ => Jp) else Jp) Q := by
  by_cases h : cond = 1#1
  · rw [dif_pos h]
    have hd : d ≠ c := hc.mp h
    generalize hsem h = hsem'
    clear hsem
    revert hsem'
    generalize hs2 : ((cc0_scratch2.slice (Rect.unit (s := S16) off₂ S1.size inb₂)).squeeze S_ sq₂).sem = q₂
    generalize hs3 : ((cc0_scratch3.slice (Rect.unit (s := S16) off₃ S1.size (inb₃ h))).squeeze S_ sq₃).sem = q₃
    intro hsem'
    rw [sendSem_eq h₂] at hs2
    rw [recvSem_eq h₃] at hs3
    subst hs2 hs3 hnd
    simp only [Prog.lift, Prog.bind_op, Prog.bind_ret]
    unfold sendSt
    rw [rem_step hd, bs_insert (not_mem_rem c d), recvDue_step hd]
    iintro ⟨⟨#Hrec, ⟨HA, HB⟩, HD, ⟨%W, HO⟩⟩, HR⟩
    ihave #HI := (records_at m K (c, .inr (.inl d))) $$ Hrec
    icases HI with ⟨#Hinv₁, #Hreach₁⟩
    ihave #HI₂ := (records_at m K (d, .inr (.inr c))) $$ Hrec
    icases HI₂ with ⟨#Hinv₂, #Hreach₂⟩
    unfold sendA
    icases HA with ⟨Hsrc, ⟨%fd, Hdst⟩, Htok₁, Htok₂⟩
    iapply (wp_send_one m K c d hd h₀ h₁ fd (recvDue c (d.val + 1)) W)
      $$ [HO Hsrc Hdst Htok₁ Htok₂]
    · isplitr; · iexact Hinv₁
      isplitr; · iexact Hinv₂
      isplitl [Hsrc]; · iexact Hsrc
      isplitl [Hdst]; · iexact Hdst
      isplitl [HO]; · iexact HO
      isplitl [Htok₁]; · iexact Htok₁
      isplitr; · iexact Hreach₁
      isplitl [Htok₂]; · iexact Htok₂
      iexact Hreach₂
    iintro ⟨Hcr, HO⟩
    iapply hJ
    unfold sendSt
    rw [dn_step hd, bs_insert (not_mem_dn c d)]
    isplitr [HR]
    · isplitr; · iexact Hrec
      isplitl [HB]; · iexact HB
      isplitl [Hcr HD]
      · isplitl [Hcr]; · (unfold sendB; iexact Hcr)
        iexact HD
      iexists W; iexact HO
    · iexact HR
  · have hd : d = c := by by_contra h'; exact h (hc.mpr h')
    rw [dif_neg h]
    subst hd
    refine (Entails.of_eq ?_).trans hJ
    unfold sendSt
    rw [rem_skip, dn_skip, recvDue_skip]

end Steps

end Cert.KernelIdeal.Hand
-- ==== Proof.Sigs.lean ====
/-
# The entry barrier and the copies in the kernel's text

The conditions the kernel tests, decided once over the mesh and the grid, and the stretches of signals and of copies
as the kernel has them.
-/
module

public import proofs.«01_k».proof.Proof.Send

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ UU ℕ

section Steps

variable (K : Dev nD × J → ℕ) (c : Dev nD)

theorem sig_if0 : ∀ c : Dev nD, k0_cond2 c = 1#1 ↔ (⟨0, by decide⟩ : Dev nD) ≠ c := by decide +kernel
theorem sig_if1 : ∀ c : Dev nD, k0_cond3 c = 1#1 ↔ (⟨1, by decide⟩ : Dev nD) ≠ c := by decide +kernel
theorem sig_if2 : ∀ c : Dev nD, k0_cond4 c = 1#1 ↔ (⟨2, by decide⟩ : Dev nD) ≠ c := by decide +kernel
theorem sig_if3 : ∀ c : Dev nD, k0_cond5 c = 1#1 ↔ (⟨3, by decide⟩ : Dev nD) ≠ c := by decide +kernel
theorem sig_if4 : ∀ c : Dev nD, k0_cond6 c = 1#1 ↔ (⟨4, by decide⟩ : Dev nD) ≠ c := by decide +kernel
theorem sig_if5 : ∀ c : Dev nD, k0_cond7 c = 1#1 ↔ (⟨5, by decide⟩ : Dev nD) ≠ c := by decide +kernel
theorem sig_if6 : ∀ c : Dev nD, k0_cond8 c = 1#1 ↔ (⟨6, by decide⟩ : Dev nD) ≠ c := by decide +kernel
theorem sig_if7 : ∀ c : Dev nD, k0_cond9 c = 1#1 ↔ (⟨7, by decide⟩ : Dev nD) ≠ c := by decide +kernel
theorem sig_if8 : ∀ c : Dev nD, k0_cond10 c = 1#1 ↔ (⟨8, by decide⟩ : Dev nD) ≠ c := by decide +kernel
theorem sig_if9 : ∀ c : Dev nD, k0_cond11 c = 1#1 ↔ (⟨9, by decide⟩ : Dev nD) ≠ c := by decide +kernel
theorem sig_if10 : ∀ c : Dev nD, k0_cond12 c = 1#1 ↔ (⟨10, by decide⟩ : Dev nD) ≠ c := by decide +kernel
theorem sig_if11 : ∀ c : Dev nD, k0_cond13 c = 1#1 ↔ (⟨11, by decide⟩ : Dev nD) ≠ c := by decide +kernel
theorem sig_if12 : ∀ c : Dev nD, k0_cond14 c = 1#1 ↔ (⟨12, by decide⟩ : Dev nD) ≠ c := by decide +kernel
theorem sig_if13 : ∀ c : Dev nD, k0_cond15 c = 1#1 ↔ (⟨13, by decide⟩ : Dev nD) ≠ c := by decide +kernel
theorem sig_if14 : ∀ c : Dev nD, k0_cond16 c = 1#1 ↔ (⟨14, by decide⟩ : Dev nD) ≠ c := by decide +kernel
theorem sig_if15 : ∀ c : Dev nD, k0_cond17 c = 1#1 ↔ (⟨15, by decide⟩ : Dev nD) ≠ c := by decide +kernel
theorem send_if0 : ∀ c : Dev nD, k0_cond19 c = 1#1 ↔ (⟨0, by decide⟩ : Dev nD) ≠ c := by decide +kernel
theorem send_if1 : ∀ c : Dev nD, k0_cond20 c = 1#1 ↔ (⟨1, by decide⟩ : Dev nD) ≠ c := by decide +kernel
theorem send_if2 : ∀ c : Dev nD, k0_cond21 c = 1#1 ↔ (⟨2, by decide⟩ : Dev nD) ≠ c := by decide +kernel
theorem send_if3 : ∀ c : Dev nD, k0_cond22 c = 1#1 ↔ (⟨3, by decide⟩ : Dev nD) ≠ c := by decide +kernel
theorem send_if4 : ∀ c : Dev nD, k0_cond23 c = 1#1 ↔ (⟨4, by decide⟩ : Dev nD) ≠ c := by decide +kernel
theorem send_if5 : ∀ c : Dev nD, k0_cond24 c = 1#1 ↔ (⟨5, by decide⟩ : Dev nD) ≠ c := by decide +kernel
theorem send_if6 : ∀ c : Dev nD, k0_cond25 c = 1#1 ↔ (⟨6, by decide⟩ : Dev nD) ≠ c := by decide +kernel
theorem send_if7 : ∀ c : Dev nD, k0_cond26 c = 1#1 ↔ (⟨7, by decide⟩ : Dev nD) ≠ c := by decide +kernel
theorem send_if8 : ∀ c : Dev nD, k0_cond27 c = 1#1 ↔ (⟨8, by decide⟩ : Dev nD) ≠ c := by decide +kernel
theorem send_if9 : ∀ c : Dev nD, k0_cond28 c = 1#1 ↔ (⟨9, by decide⟩ : Dev nD) ≠ c := by decide +kernel
theorem send_if10 : ∀ c : Dev nD, k0_cond29 c = 1#1 ↔ (⟨10, by decide⟩ : Dev nD) ≠ c := by decide +kernel
theorem send_if11 : ∀ c : Dev nD, k0_cond30 c = 1#1 ↔ (⟨11, by decide⟩ : Dev nD) ≠ c := by decide +kernel
theorem send_if12 : ∀ c : Dev nD, k0_cond31 c = 1#1 ↔ (⟨12, by decide⟩ : Dev nD) ≠ c := by decide +kernel
theorem send_if13 : ∀ c : Dev nD, k0_cond32 c = 1#1 ↔ (⟨13, by decide⟩ : Dev nD) ≠ c := by decide +kernel
theorem send_if14 : ∀ c : Dev nD, k0_cond33 c = 1#1 ↔ (⟨14, by decide⟩ : Dev nD) ≠ c := by decide +kernel
theorem send_if15 : ∀ c : Dev nD, k0_cond34 c = 1#1 ↔ (⟨15, by decide⟩ : Dev nD) ≠ c := by decide +kernel

variable (i : grid0.Coords) (arg1 : Memref sig .tc .vmem S4096x256 .fp8e4m3) (harg1 : arg1.IsWhole) (arg2 : Memref sig .tc .vmem S512x8192 .fp8e4m3) (harg2 : arg2.IsWhole)
  (arg3 : Memref sig .tc .smem S1 .f32) (harg3 : arg3.IsWhole) (arg4 : Memref sig .tc .smem S1 .f32) (harg4 : arg4.IsWhole) (arg5 : Memref sig .tc .vmem S256x8192 .f32) (harg5 : arg5.IsWhole)

set_option maxHeartbeats 800000 in
theorem part1_spec (v2 : BitVec 32) (h1 : k0_cond1 i = 1#1) {R : sProp 𝕄} :
    iprop(sigSt m K c 0 ∗ R)
      ⊢ wp frame (wpE (defs₀ (F := F)) 𝒱₀ (c : Thread nD τ) none) Set.univ (k0_part1 i arg1 harg1 arg2 harg2 arg3 harg3 arg4 harg4 arg5 harg5 (Memref.whole cc0_scratch0) (Memref.isWhole_whole _) (Memref.whole cc0_scratch1) (Memref.isWhole_whole _) cc0_scratch2 cc0_scratch3 c v2 h1)
          (fun v => iprop(⌜v = SemArray.scalar (sig.barrier 0 rfl)⌝ ∗ sigSt m K c 9 ∗ R)) := by
  rw [k0_part1_eq_skeleton]
  unfold k0_part1_skel
  refine sig_jp m K c ⟨0, by decide⟩ (sig_if0 c) k0_dev1_eq ?_
  refine sig_jp m K c ⟨1, by decide⟩ (sig_if1 c) k0_dev2_eq ?_
  refine sig_jp m K c ⟨2, by decide⟩ (sig_if2 c) k0_dev3_eq ?_
  refine sig_jp m K c ⟨3, by decide⟩ (sig_if3 c) k0_dev4_eq ?_
  refine sig_jp m K c ⟨4, by decide⟩ (sig_if4 c) k0_dev5_eq ?_
  refine sig_jp m K c ⟨5, by decide⟩ (sig_if5 c) k0_dev6_eq ?_
  refine sig_jp m K c ⟨6, by decide⟩ (sig_if6 c) k0_dev7_eq ?_
  refine sig_jp m K c ⟨7, by decide⟩ (sig_if7 c) k0_dev8_eq ?_
  refine sig_jp m K c ⟨8, by decide⟩ (sig_if8 c) k0_dev9_eq ?_
  rw [Prog.pure_eq_ret, wp_ret]
  iintro H
  imodintro
  isplitr; · ipureintro; rfl
  iexact H

end Steps

end Cert.KernelIdeal.Hand
-- ==== Proof.Recv.lean ====
/-
# One step of the receive waits
-/
module

public import proofs.«01_k».proof.Proof.Steps

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ UU ℕ

section Steps

variable (K : Dev nD × J → ℕ) (c : Dev nD)

/-! ### The receive waits -/

/-- The columns of `xt` in place when the receive waits stand at `k`, and the rows of `x8` back when the send waits do. -/
def doneCols (k : ℕ) : Finset S256x4096.Idx := Finset.univ.filter fun i => (i 1).val / 256 < k ∨ (i 1).val / 256 = c.val
def doneRows (k : ℕ) : Finset S4096x256.Idx := Finset.univ.filter fun i => (i 0).val / 256 < k ∨ (i 0).val / 256 = c.val

theorem doneCols_skip : doneCols c (c.val + 1) = doneCols c c.val := by
  ext i; simp only [doneCols, Finset.mem_filter, Finset.mem_univ, true_and]; omega
theorem doneRows_skip : doneRows c (c.val + 1) = doneRows c c.val := by
  ext i; simp only [doneRows, Finset.mem_filter, Finset.mem_univ, true_and]; omega
theorem doneCols_step (d : Dev nD) : doneCols c (d.val + 1) = colSet d ∪ doneCols c d.val := by
  ext i; simp only [doneCols, colSet, Finset.mem_union, Finset.mem_filter, Finset.mem_univ, true_and]; omega
theorem doneRows_step (d : Dev nD) : doneRows c (d.val + 1) = rowSet d ∪ doneRows c d.val := by
  ext i; simp only [doneRows, rowSet, Finset.mem_union, Finset.mem_filter, Finset.mem_univ, true_and]; omega
theorem doneCols_disj {d : Dev nD} (h : d ≠ c) : Disjoint (colSet d) (doneCols c d.val) := by
  have h' : d.val ≠ c.val := fun e => h (Fin.ext e)
  refine Finset.disjoint_left.mpr fun i hi hj => ?_
  simp only [doneCols, colSet, Finset.mem_filter, Finset.mem_univ, true_and] at hi hj
  omega
theorem doneRows_disj {d : Dev nD} (h : d ≠ c) : Disjoint (rowSet d) (doneRows c d.val) := by
  have h' : d.val ≠ c.val := fun e => h (Fin.ext e)
  refine Finset.disjoint_left.mpr fun i hi hj => ?_
  simp only [doneRows, rowSet, Finset.mem_filter, Finset.mem_univ, true_and] at hi hj
  omega
theorem doneCols_zero : doneCols c 0 = colSet c := by
  ext i; simp only [doneCols, colSet, Finset.mem_filter, Finset.mem_univ, true_and]; omega
theorem doneRows_zero : doneRows c 0 = rowSet c := by
  ext i; simp only [doneRows, rowSet, Finset.mem_filter, Finset.mem_univ, true_and]; omega
theorem doneCols_last : doneCols c 16 = Finset.univ := by
  refine Finset.filter_true_of_mem fun i _ => .inl ?_
  have : (i 1).val < 4096 := (i 1).isLt
  omega
theorem doneRows_last : doneRows c 16 = Finset.univ := by
  refine Finset.filter_true_of_mem fun i _ => .inl ?_
  have : (i 0).val < 4096 := (i 0).isLt
  omega

def recvA (d : Dev nD) : sProp 𝕄 := iprop(cred (tallyAt (recvCell c d) () N) ∗ atPos ER (recvCell c d) 0 ∅ 0)
def recvB (d : Dev nD) : sProp 𝕄 := semVal (recvCell c d) 0

/-- The state of the receive waits: for every device still to be heard from, the credit and the position at its cell;
    the columns in place; the cells closed. -/
def recvSt (k : ℕ) : sProp 𝕄 :=
  iprop(records m K ∗ bigSep (rem c k) (recvA c) ∗ xtAt c (doneCols c k) (XT m c) ∗ bigSep (dn c k) (recvB c)
    ∗ ∃ W, owes (c : Thread nD τ) 0 W)

theorem recv_jp (d : Dev nD) {cond : BitVec 1} (hc : cond = 1#1 ↔ d ≠ c)
    {src : Memref sig .tc .vmem S256x256 .fp8e4m3} {off₁ : Fin 2 → ℕ} {off₃ : Fin 1 → ℕ} {inb₁ : cond = 1#1 → _} {inb₃ : cond = 1#1 → _} {sq₃ : S1.Squeezes S_}
    (h₃ : off₃ = ![d.val])
    {hsrc : src.view.WordExact} {hdst : ∀ h : cond = 1#1, (colM off₁ (inb₁ h)).view.WordExact}
    {R : sProp 𝕄} {α : Type} {Q : α → sProp 𝕄} {Jp : Prog (TpuEff nD τ sig (Elt F) Λ₀ .tc) α}
    (hJ : iprop(recvSt m K c (d.val + 1) ∗ R) ⊢ wp frame (wpE (defs₀ (F := F)) 𝒱₀ (c : Thread nD τ) none) Set.univ Jp Q) :
    iprop(recvSt m K c d.val ∗ R)
      ⊢ wp frame (wpE (defs₀ (F := F)) 𝒱₀ (c : Thread nD τ) none) Set.univ (if h : cond = 1#1 then
          (Prog.lift (.waitDma2 ((cc0_scratch3.slice (Rect.unit (s := S16) off₃ S1.size (inb₃ h))).squeeze S_ sq₃).sem src (colM off₁ (inb₁ h)) hsrc (hdst h))
            >>= fun _ => Jp) else Jp) Q := by
  by_cases h : cond = 1#1
  · rw [dif_pos h, recvSem_eq h₃]
    have hd : d ≠ c := hc.mp h
    simp only [Prog.lift, Prog.bind_op, Prog.bind_ret]
    unfold recvSt
    rw [rem_step hd, bs_insert (not_mem_rem c d)]
    iintro ⟨⟨#Hrec, ⟨HA, HB⟩, Hxt, HD, ⟨%W, HO⟩⟩, HR⟩
    ihave #HI := (records_at m K (c, .inr (.inr d))) $$ Hrec
    icases HI with ⟨#Hinv, #Hreach⟩
    unfold recvA
    icases HA with ⟨Hcr, Hat⟩
    iapply (Rounds.wp_wait_rest_token 𝒱₀ ER (xRd m) (c : Thread nD τ) none (κ := K (c, .inr (.inr d)))
        (wpE_waitDma2_eq 𝒱₀ (c : Thread nD τ) none Set.univ) (Set.mem_univ _) () (O := 0) (W := W) (R := 0) (m := 0) (T := ∅)
        (by rw [Nat.zero_add, amt_col, expect_recv m c hd])) $$ [Hcr HO Hat]
    · isplitr; · iexact Hinv
      isplitl [Hcr]; · (rw [amt_col]; iexact Hcr)
      isplitl [HO]; · iexact HO
      isplitr; · rw [MayWait_zero]; iempintro
      iexact Hat
    iintro ⟨HO, Hat, -, Hpay⟩
    ihave Hnew := (Entails.of_eq (rest_recv m c hd)) $$ Hpay
    imod (Rounds.cell_close ER (xRd m) (Set.mem_univ (K (c, .inr (.inr d)))) (fun h => h) (R := 0 + 1) (duties_later m (recvCell c d))) $$ [Hat] with Hz
    · isplitr; · iexact Hinv
      iexact Hat
    iapply hJ
    unfold recvSt
    rw [dn_step hd, bs_insert (not_mem_dn c d), doneCols_step]
    isplitr [HR]
    · isplitr; · iexact Hrec
      isplitl [HB]; · iexact HB
      isplitl [Hxt Hnew]
      · unfold xtAt
        iapply (pointsTo_union (doneCols_disj c hd)).2
        isplitl [Hnew] <;> iassumption
      isplitl [Hz HD]
      · isplitl [Hz]; · (unfold recvB; iexact Hz)
        iexact HD
      iexists _; iexact HO
    · iexact HR
  · have hd : d = c := by by_contra h'; exact h (hc.mpr h')
    rw [dif_neg h]
    subst hd
    refine (Entails.of_eq ?_).trans hJ
    unfold recvSt
    rw [rem_skip, dn_skip, doneCols_skip]

end Steps

end Cert.KernelIdeal.Hand
-- ==== Proof.Mem.lean ====
/-
# Loads and stores of whole windows, and of the parts of the two scratch buffers
-/
module

public import proofs.«01_k».proof.Proof.Recv

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ UU ℕ

section Steps

variable (K : Dev nD × J → ℕ) (c : Dev nD)

theorem read_whole {sp : Space} {s : Shape} {e : EltTy} (b : Memref sig .tc sp s e) {off : Fin s.rank → ℕ} {inb} (h0 : off = fun _ => 0)
    (f : b.view.ty.Contents (Elt F)) : b.view.readAt (Elt F) (Rect.unit off s.size inb).toLoadRect f = b.view.read (Elt F) f := by
  subst h0
  funext i
  show b.view.read (Elt F) f ((Rect.unit (fun _ => 0) s.size inb).toLoadRect.idx i) = _
  refine congrArg (b.view.read (Elt F) f) (funext fun a => Fin.ext ?_)
  show 0 + 1 * (i a).val = (i a).val
  omega

/-- A load of a whole memref reads what it is owned at. -/
theorem owns_load {sp : CoreSpace} {s : Shape} {e : EltTy} {b : Memref sig .tc sp s e} {off : Fin s.rank → ℕ} {inb} {hl}
    (h0 : off = fun _ => 0) {q : PosShare TreeShare} {X : s.Idx → Elt F e} {α : Type} {Q : α → sProp 𝕄}
    {k : (s.Idx → Elt F e) → Prog (TpuEff nD τ sig (Elt F) Λ₀ .tc) α} :
    (owns (c : Thread nD τ) b q X : sProp 𝕄)
      ⊢ iprop((owns (c : Thread nD τ) b q X -∗ wp frame (wpE (defs₀ (F := F)) 𝒱₀ (c : Thread nD τ) none) Set.univ (k X) Q)
        -∗ wp frame (wpE (defs₀ (F := F)) 𝒱₀ (c : Thread nD τ) none) Set.univ (.op (.load b (Rect.unit off s.size inb).toLoadRect hl) k) Q) := by
  unfold owns
  iintro ⟨%f, %hf, Hb⟩ Hk
  iapply (wp_load 𝒱₀ (c : Thread nD τ) none Set.univ (m := b) (S := b.view.set) (View.setOn_subset_set _ _)) $$ Hb
  iintro Hb
  rw [read_whole b h0, hf]
  iapply Hk
  iexists f
  isplitr; · ipureintro; exact hf
  iexact Hb

/-- A store over a whole memref. -/
theorem owns_store {sp : CoreSpace} {s : Shape} {e : EltTy} {b : Memref sig .tc sp s e} {off : Fin s.rank → ℕ} {inb} {hx} {hm}
    (h0 : off = fun _ => 0) {X w : s.Idx → Elt F e} {α : Type} {Q : α → sProp 𝕄}
    {k : PUnit → Prog (TpuEff nD τ sig (Elt F) Λ₀ .tc) α} :
    (owns (c : Thread nD τ) b fullShare X : sProp 𝕄)
      ⊢ iprop((owns (c : Thread nD τ) b fullShare w -∗ wp frame (wpE (defs₀ (F := F)) 𝒱₀ (c : Thread nD τ) none) Set.univ (k ⟨⟩) Q)
        -∗ wp frame (wpE (defs₀ (F := F)) 𝒱₀ (c : Thread nD τ) none) Set.univ (.op (.store b (Rect.unit off s.size inb) w Finset.univ hx hm) k) Q) := by
  unfold owns
  iintro ⟨%f, %hf, Hb⟩ Hk
  have hsub : (b.access (Rect.unit off s.size inb)).setOn Finset.univ ⊆ b.view.set := by
    exact (View.setOn_subset_set _ _).trans (View.set_slice_subset _ _)
  iapply (wp_store 𝒱₀ (c : Thread nD τ) none Set.univ (m := b) (r := Rect.unit off s.size inb) (S := b.view.set) hsub) $$ Hb
  iintro Hb
  iapply Hk
  iexists ((b.access (Rect.unit off s.size inb)).write (Elt F) f w Finset.univ)
  isplitr
  · ipureintro
    refine (read_whole b (inb := inb) h0 _).symm.trans (funext fun i => ?_)
    exact View.read_write_of_mem (v := b.access (Rect.unit off s.size inb)) f w (Finset.mem_univ i)
  iexact Hb

/-! ### The same as steps of a program, with a frame -/

theorem sw {A B R : sProp 𝕄} : iprop(A ∗ B ∗ R) ⊢ iprop(B ∗ A ∗ R) := by
  iintro ⟨HA, HB, HR⟩
  isplitl [HB]; · iexact HB
  isplitl [HA] <;> iassumption
theorem sw3 {A B C R : sProp 𝕄} : iprop(A ∗ B ∗ C ∗ R) ⊢ iprop(C ∗ A ∗ B ∗ R) := by
  iintro ⟨HA, HB, HC, HR⟩
  isplitl [HC]; · iexact HC
  isplitl [HA]; · iexact HA
  isplitl [HB] <;> iassumption

/-- A part of the program, and the rest. -/
theorem bind_jp {α β : Type} {a : Prog (TpuEff nD τ sig (Elt F) Λ₀ .tc) β} {k : β → Prog (TpuEff nD τ sig (Elt F) Λ₀ .tc) α}
    {P : sProp 𝕄} {Q' : β → sProp 𝕄} {Q : α → sProp 𝕄}
    (h₁ : P ⊢ wp frame (wpE (defs₀ (F := F)) 𝒱₀ (c : Thread nD τ) none) Set.univ a Q')
    (h₂ : ∀ x, Q' x ⊢ wp frame (wpE (defs₀ (F := F)) 𝒱₀ (c : Thread nD τ) none) Set.univ (k x) Q) :
    P ⊢ wp frame (wpE (defs₀ (F := F)) 𝒱₀ (c : Thread nD τ) none) Set.univ (a >>= k) Q := by
  rw [wp_bind]
  exact h₁.trans (wp_mono _ _ _ h₂)

theorem load_jp {sp : CoreSpace} {s : Shape} {e : EltTy} {b : Memref sig .tc sp s e} {off : Fin s.rank → ℕ} {inb} {hl}
    (h0 : off = fun _ => 0) {q : PosShare TreeShare} {X : s.Idx → Elt F e} {R : sProp 𝕄} {α : Type} {Q : α → sProp 𝕄}
    {k : (s.Idx → Elt F e) → Prog (TpuEff nD τ sig (Elt F) Λ₀ .tc) α}
    (hJ : iprop(owns (c : Thread nD τ) b q X ∗ R) ⊢ wp frame (wpE (defs₀ (F := F)) 𝒱₀ (c : Thread nD τ) none) Set.univ (k X) Q) :
    iprop(owns (c : Thread nD τ) b q X ∗ R)
      ⊢ wp frame (wpE (defs₀ (F := F)) 𝒱₀ (c : Thread nD τ) none) Set.univ (Prog.lift (.load b (Rect.unit off s.size inb).toLoadRect hl) >>= k) Q := by
  iintro ⟨H, HR⟩
  iapply (owns_load c h0 (k := k)) $$ H
  iintro H
  iapply hJ
  isplitl [H] <;> iassumption

theorem store_jp {sp : CoreSpace} {s : Shape} {e : EltTy} {b : Memref sig .tc sp s e} {off : Fin s.rank → ℕ} {inb} {hx} {hm}
    (h0 : off = fun _ => 0) {X w : s.Idx → Elt F e} {R : sProp 𝕄} {α : Type} {Q : α → sProp 𝕄}
    {k : PUnit → Prog (TpuEff nD τ sig (Elt F) Λ₀ .tc) α}
    (hJ : iprop(owns (c : Thread nD τ) b fullShare w ∗ R) ⊢ wp frame (wpE (defs₀ (F := F)) 𝒱₀ (c : Thread nD τ) none) Set.univ (k ⟨⟩) Q) :
    iprop(owns (c : Thread nD τ) b fullShare X ∗ R)
      ⊢ wp frame (wpE (defs₀ (F := F)) 𝒱₀ (c : Thread nD τ) none) Set.univ (Prog.lift (.store b (Rect.unit off s.size inb) w Finset.univ hx hm) >>= k) Q := by
  iintro ⟨H, HR⟩
  iapply (owns_store c h0 (k := k)) $$ H
  iintro H
  iapply hJ
  isplitl [H] <;> iassumption

/-- The one index of a scale. -/
def i1 : S1.Idx := fun a => ⟨0, by revert a; decide⟩

theorem sload_jp {b : Memref sig .tc .smem S1 .f32} {off : Fin 1 → ℕ} {inb hn hw} (h0 : off = fun _ => 0) {q : PosShare TreeShare} {X : S1.Idx → Elt F .f32}
    {R : sProp 𝕄} {α : Type} {Q : α → sProp 𝕄} {k : Elt F .f32 → Prog (TpuEff nD τ sig (Elt F) Λ₀ .tc) α}
    (hJ : iprop(owns (c : Thread nD τ) b q X ∗ R) ⊢ wp frame (wpE (defs₀ (F := F)) 𝒱₀ (c : Thread nD τ) none) Set.univ (k (X i1)) Q) :
    iprop(owns (c : Thread nD τ) b q X ∗ R)
      ⊢ wp frame (wpE (defs₀ (F := F)) 𝒱₀ (c : Thread nD τ) none) Set.univ (smemLoad b (Rect.unit (s := S1) off S1.size inb) hn hw >>= k) Q := by
  have e0 : ∀ h, (Shape.Idx.first (s := S1) h) = i1 := fun h => funext fun a => match a with | ⟨0, _⟩ => rfl
  iintro ⟨H, HR⟩
  simp only [smemLoad, smemLoadElt, Prog.bind_op, Prog.bind_ret]
  iapply (owns_load c h0) $$ H
  iintro H
  rw [e0]
  iapply hJ
  isplitl [H] <;> iassumption

theorem x8_load_jp {off : Fin 2 → ℕ} {sz : Fin 2 → ℕ} {inb} {hl} {f : S4096x256.Idx → Elt F .fp8e4m3} {R : sProp 𝕄} {α : Type} {Q : α → sProp 𝕄}
    {k : _ → Prog (TpuEff nD τ sig (Elt F) Λ₀ .tc) α}
    (hJ : iprop(x8At c Finset.univ f ∗ R) ⊢ wp frame (wpE (defs₀ (F := F)) 𝒱₀ (c : Thread nD τ) none) Set.univ (k (x8M.view.readAt (Elt F) (Rect.unit (s := S4096x256) off sz inb).toLoadRect f)) Q) :
    iprop(x8At c Finset.univ f ∗ R)
      ⊢ wp frame (wpE (defs₀ (F := F)) 𝒱₀ (c : Thread nD τ) none) Set.univ (Prog.lift (.load x8M (Rect.unit (s := S4096x256) off sz inb).toLoadRect hl) >>= k) Q := by
  unfold x8At at hJ ⊢
  iintro ⟨H, HR⟩
  iapply (wp_load 𝒱₀ (c : Thread nD τ) none Set.univ (m := x8M) (k := k) (Finset.subset_univ _)) $$ H
  iintro H
  iapply hJ
  isplitl [H] <;> iassumption

theorem x8_store_jp {off : Fin 2 → ℕ} {inb} {hx} {hm} (h0 : off = fun _ => 0) {f w : S4096x256.Idx → Elt F .fp8e4m3} {R : sProp 𝕄} {α : Type} {Q : α → sProp 𝕄}
    {k : PUnit → Prog (TpuEff nD τ sig (Elt F) Λ₀ .tc) α}
    (hJ : iprop(x8At c Finset.univ w ∗ R) ⊢ wp frame (wpE (defs₀ (F := F)) 𝒱₀ (c : Thread nD τ) none) Set.univ (k ⟨⟩) Q) :
    iprop(x8At c Finset.univ f ∗ R)
      ⊢ wp frame (wpE (defs₀ (F := F)) 𝒱₀ (c : Thread nD τ) none) Set.univ (Prog.lift (.store x8M (Rect.unit (s := S4096x256) off S4096x256.size inb) w Finset.univ hx hm) >>= k) Q := by
  have e : x8At c Finset.univ ((x8M.access (Rect.unit (s := S4096x256) off S4096x256.size inb)).write (Elt F) f w Finset.univ) = x8At c Finset.univ w :=
    congrArg (x8At c Finset.univ) (Memref.write_access_unit_zero_univ (Elt F) cc0_scratch0 h0 inb f w)
  unfold x8At at e hJ ⊢
  iintro ⟨H, HR⟩
  iapply (wp_store 𝒱₀ (c : Thread nD τ) none Set.univ (m := x8M) (r := Rect.unit (s := S4096x256) off S4096x256.size inb) (k := k) (Finset.subset_univ _)) $$ H
  iintro H
  iapply hJ
  isplitl [H]
  · iapply (Entails.of_eq e); iexact H
  · iexact HR

theorem xt_load_jp {off : Fin 2 → ℕ} {sz : Fin 2 → ℕ} {inb} {hl} {S : Finset S256x4096.Idx} (hS : (Rect.unit (s := S256x4096) off sz inb).set ⊆ S)
    {f : S256x4096.Idx → Elt F .fp8e4m3} {R : sProp 𝕄} {α : Type} {Q : α → sProp 𝕄} {k : _ → Prog (TpuEff nD τ sig (Elt F) Λ₀ .tc) α}
    (hJ : iprop(xtAt c S f ∗ R) ⊢ wp frame (wpE (defs₀ (F := F)) 𝒱₀ (c : Thread nD τ) none) Set.univ (k (xtM.view.readAt (Elt F) (Rect.unit (s := S256x4096) off sz inb).toLoadRect f)) Q) :
    iprop(xtAt c S f ∗ R)
      ⊢ wp frame (wpE (defs₀ (F := F)) 𝒱₀ (c : Thread nD τ) none) Set.univ (Prog.lift (.load xtM (Rect.unit (s := S256x4096) off sz inb).toLoadRect hl) >>= k) Q := by
  unfold xtAt at hJ ⊢
  iintro ⟨H, HR⟩
  iapply (wp_load_rect 𝒱₀ (c : Thread nD τ) none Set.univ (m := xtM) (r := Rect.unit (s := S256x4096) off sz inb) (k := k)
    ((Finset.subset_of_eq (View.set_slice_whole cc0_scratch1 _)).trans hS)) $$ H
  iintro H
  iapply hJ
  isplitl [H] <;> iassumption

theorem row_read {off : Fin 2 → ℕ} (inb) (f : S4096x256.Idx → Elt F .fp8e4m3) :
    x8M.view.readAt (Elt F) (Rect.unit (s := S4096x256) off S256x256.size inb).toLoadRect f = (rowM off inb).view.read (Elt F) f :=
  View.readAt_rect _ _

theorem col_access {off : Fin 2 → ℕ} (inb) : xtM.access (Rect.unit (s := S256x4096) off S256x256.size inb) = (colM off inb).view := rfl

/-- The store of the device's own block: its own columns of `xt` in place. -/
theorem xt_store_jp {off₀ off₁ : Fin 2 → ℕ} {inb₀ inb₁} {hx} {hm} (h₀ : off₀ = ![256 * c.val, 0]) (h₁ : off₁ = ![0, 256 * c.val])
    {f : S256x4096.Idx → Elt F .fp8e4m3} {w : S256x256.Idx → Elt F .fp8e4m3}
    (hw : w = (rowM off₀ inb₀).view.read (Elt F) (X8 m c))
    {R : sProp 𝕄} {α : Type} {Q : α → sProp 𝕄}
    {k : PUnit → Prog (TpuEff nD τ sig (Elt F) Λ₀ .tc) α}
    (hJ : iprop(xtAt c (colSet c) (XT m c) ∗ R) ⊢ wp frame (wpE (defs₀ (F := F)) 𝒱₀ (c : Thread nD τ) none) Set.univ (k ⟨⟩) Q) :
    iprop(xtAt c (colSet c) f ∗ R)
      ⊢ wp frame (wpE (defs₀ (F := F)) 𝒱₀ (c : Thread nD τ) none) Set.univ (Prog.lift (.store xtM (Rect.unit (s := S256x4096) off₁ S256x256.size inb₁) w Finset.univ hx hm) >>= k) Q := by
  have e : xtAt c (colSet c) ((colM off₁ inb₁).view.write (Elt F) f w Finset.univ) = xtAt c (colSet c) (XT m c) := by
    rw [hw]
    exact xtAt_congr c (landed_eq m c c h₀ h₁ f)
  unfold xtAt at e hJ ⊢
  iintro ⟨H, HR⟩
  iapply (wp_store 𝒱₀ (c : Thread nD τ) none Set.univ (m := xtM) (r := Rect.unit (s := S256x4096) off₁ S256x256.size inb₁) (k := k)
    (S := colSet c) ((View.setOn_subset_set _ _).trans (Finset.subset_of_eq (colM_set (h := inb₁) h₁)))) $$ H
  iintro H
  iapply hJ
  isplitl [H]
  · iapply (Entails.of_eq e); iexact H
  · iexact HR

/-! ### The scratch buffers in blocks -/

theorem x8_split (f : S4096x256.Idx → Elt F .fp8e4m3) :
    x8At c Finset.univ f = iprop(x8At c (rowSet c) f ∗ bigSep (Finset.univ.erase c) (fun d => x8At c (rowSet d) f)) := by
  have h : (Finset.univ : Finset S4096x256.Idx) = (Finset.univ : Finset (Dev nD)).biUnion rowSet := by
    ext i
    simp only [Finset.mem_univ, Finset.mem_biUnion, rowSet, Finset.mem_filter, true_and, true_iff]
    have : (i 0).val < 4096 := (i 0).isLt
    exact ⟨⟨(i 0).val / 256, by show _ < 16; omega⟩, rfl⟩
  refine Eq.trans ?_ (bs_insert (Φ := fun d => x8At c (rowSet d) f) (Finset.notMem_erase c _))
  rw [Finset.insert_erase (Finset.mem_univ c)]
  unfold x8At
  rw [h, pointsTo_biUnion]
  intro a _ b _ hab
  refine Finset.disjoint_left.mpr fun i hi hj => hab (Fin.ext ?_)
  simp only [rowSet, Finset.mem_filter, Finset.mem_univ, true_and] at hi hj
  omega

theorem xt_split (f : S256x4096.Idx → Elt F .fp8e4m3) :
    xtAt c Finset.univ f = iprop(xtAt c (colSet c) f ∗ bigSep (Finset.univ.erase c) (fun d => xtAt c (colSet d) f)) := by
  have h : (Finset.univ : Finset S256x4096.Idx) = (Finset.univ : Finset (Dev nD)).biUnion colSet := by
    ext i
    simp only [Finset.mem_univ, Finset.mem_biUnion, colSet, Finset.mem_filter, true_and, true_iff]
    have : (i 1).val < 4096 := (i 1).isLt
    exact ⟨⟨(i 1).val / 256, by show _ < 16; omega⟩, rfl⟩
  refine Eq.trans ?_ (bs_insert (Φ := fun d => xtAt c (colSet d) f) (Finset.notMem_erase c _))
  rw [Finset.insert_erase (Finset.mem_univ c)]
  unfold xtAt
  rw [h, pointsTo_biUnion]
  intro a _ b _ hab
  refine Finset.disjoint_left.mpr fun i hi hj => hab (Fin.ext ?_)
  simp only [colSet, Finset.mem_filter, Finset.mem_univ, true_and] at hi hj
  omega

end Steps

end Cert.KernelIdeal.Hand
-- ==== Proof.Sends.lean ====
/-
# The first point's copies

The device's block of `x` goes to `x8`, its own rows of it into place in `xt`, and the other rows to the other devices.
-/
module

public import proofs.«01_k».proof.Proof.Sigs
public import proofs.«01_k».proof.Proof.Mem
public import Idealize.ShloMosaic.Lib.Pipeline.Value

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ UU ℕ

section Steps

variable (K : Dev nD × J → ℕ) (c : Dev nD)

theorem zeros2 : (![0, 0] : Fin 2 → ℕ) = fun _ => 0 := funext fun a => by match a with | ⟨0, _⟩ => rfl | ⟨1, _⟩ => rfl
theorem zeros1 : (![0] : Fin 1 → ℕ) = fun _ => 0 := funext fun a => by match a with | ⟨0, _⟩ => rfl

omit [FloatOps F] in
theorem pay1_eq (v : Vec F S4096x256 .fp8e4m3) [FloatOps F] : k0_pay1 v = v :=
  (shapeCast_self _ _).trans (shapeCast_self _ _)
omit [FloatOps F] in
theorem pay2_eq (v : Vec F S256x256 .fp8e4m3) [FloatOps F] : k0_pay2 v = v := shapeCast_self _ _

/-- The two tokens of the copy to device `d`. -/
def sendTok (d : Dev nD) : sProp 𝕄 := iprop(dutyTok ER (sendCell c d) 0 d ∗ dutyTok ER (recvCell d c) 0 c)
/-- What the sending phase starts with, the rows apart. -/
def sendPre : sProp 𝕄 :=
  iprop(records m K ∗ bigSep (rem c 0) (fun d => iprop(∃ f, xtAt (F := F) d (colSet c) f)) ∗ bigSep (rem c 0) (sendTok c)
    ∗ ∃ W, owes (c : Thread nD τ) (recvDue c 0) W)

theorem send_start {R : sProp 𝕄} : iprop(x8At c Finset.univ (X8 m c) ∗ sendPre m K c ∗ R) ⊢ iprop(sendSt m K c 0 ∗ x8At c (rowSet c) (X8 m c) ∗ R) := by
  rw [x8_split c]
  unfold sendPre sendSt
  rw [dn_zero, bs_none]
  have e : bigSep (rem c 0) (sendA m c) = iprop(bigSep (rem c 0) (fun d => x8At c (rowSet d) (X8 m c))
      ∗ bigSep (rem c 0) (fun d => iprop(∃ f, xtAt (F := F) d (colSet c) f)) ∗ bigSep (rem c 0) (sendTok c)) := by
    rw [← bigSep_sep', ← bigSep_sep']; rfl
  rw [e, ← rem_zero]
  iintro ⟨⟨Hown, Hrows⟩, ⟨#Hrec, Hcols, Htok, HO⟩, HR⟩
  isplitr [Hown HR]
  · isplitr; · iexact Hrec
    isplitl [Hrows Hcols Htok]
    · isplitl [Hrows]; · iexact Hrows
      isplitl [Hcols] <;> iassumption
    isplitr; · iempintro
    iexact HO
  isplitl [Hown] <;> iassumption

variable (i : grid0.Coords) (arg1 : Memref sig .tc .vmem S4096x256 .fp8e4m3) (harg1 : arg1.IsWhole) (arg2 : Memref sig .tc .vmem S512x8192 .fp8e4m3) (harg2 : arg2.IsWhole)
  (arg3 : Memref sig .tc .smem S1 .f32) (harg3 : arg3.IsWhole) (arg4 : Memref sig .tc .smem S1 .f32) (harg4 : arg4.IsWhole) (arg5 : Memref sig .tc .vmem S256x8192 .f32) (harg5 : arg5.IsWhole)

set_option maxHeartbeats 1600000 in
theorem part2_spec (v2 : BitVec 32) (h18 : k0_cond18 i = 1#1) {q : PosShare TreeShare} {f8 ft} {R : sProp 𝕄} :
    iprop(owns (c : Thread nD τ) arg1 q (X8 m c) ∗ x8At c Finset.univ f8 ∗ xtAt c (colSet c) ft ∗ sendPre m K c ∗ R)
      ⊢ wp frame (wpE (defs₀ (F := F)) 𝒱₀ (c : Thread nD τ) none) Set.univ (k0_part2 i arg1 harg1 arg2 harg2 arg3 harg3 arg4 harg4 arg5 harg5 (Memref.whole cc0_scratch0) (Memref.isWhole_whole _) (Memref.whole cc0_scratch1) (Memref.isWhole_whole _) cc0_scratch2 cc0_scratch3 c v2 h18)
          (fun _ => iprop(sendSt m K c 6 ∗ x8At c (rowSet c) (X8 m c) ∗ xtAt c (colSet c) (XT m c) ∗ owns (c : Thread nD τ) arg1 q (X8 m c) ∗ R)) := by
  rw [k0_part2_eq_skeleton]
  unfold k0_part2_skel
  refine load_jp c zeros2 ?_
  refine sw.trans ?_
  refine x8_load_jp c ?_
  rw [pay1_eq]
  refine x8_store_jp c zeros2 ?_
  refine x8_load_jp c ?_
  refine sw3.trans ?_
  refine xt_load_jp c (Finset.subset_of_eq (rect_col (k0_off2_eq c))) ?_
  rw [pay2_eq]
  refine xt_store_jp m c (k0_off1_eq c) (k0_off2_eq c) (row_read _ _) ?_
  refine (show _ ⊢ iprop(x8At c Finset.univ (X8 m c) ∗ sendPre m K c ∗ (xtAt c (colSet c) (XT m c) ∗ owns (c : Thread nD τ) arg1 q (X8 m c) ∗ R)) from ?_).trans ((send_start m K c).trans ?_)
  · iintro ⟨Hxt, Hx8, Harg, Hpre, HR⟩
    isplitl [Hx8]; · iexact Hx8
    isplitl [Hpre]; · iexact Hpre
    isplitl [Hxt]; · iexact Hxt
    isplitl [Harg] <;> iassumption
  refine send_jp m K c ⟨0, by decide⟩ (send_if0 c) k0_dev17_eq rfl (k0_off4_eq c) rfl (k0_off3_eq c) ?_
  refine send_jp m K c ⟨1, by decide⟩ (send_if1 c) k0_dev18_eq rfl (k0_off6_eq c) rfl (k0_off5_eq c) ?_
  refine send_jp m K c ⟨2, by decide⟩ (send_if2 c) k0_dev19_eq rfl (k0_off8_eq c) rfl (k0_off7_eq c) ?_
  refine send_jp m K c ⟨3, by decide⟩ (send_if3 c) k0_dev20_eq rfl (k0_off10_eq c) rfl (k0_off9_eq c) ?_
  refine send_jp m K c ⟨4, by decide⟩ (send_if4 c) k0_dev21_eq rfl (k0_off12_eq c) rfl (k0_off11_eq c) ?_
  refine send_jp m K c ⟨5, by decide⟩ (send_if5 c) k0_dev22_eq rfl (k0_off14_eq c) rfl (k0_off13_eq c) ?_
  rw [Prog.pure_eq_ret, wp_ret]
  iintro H
  imodintro
  iexact H

set_option maxHeartbeats 1600000 in
theorem part3_spec (v2 : BitVec 32) (h18 : k0_cond18 i = 1#1) {q : PosShare TreeShare} {f8 ft} {R : sProp 𝕄} :
    iprop(owns (c : Thread nD τ) arg1 q (X8 m c) ∗ x8At c Finset.univ f8 ∗ xtAt c (colSet c) ft ∗ sendPre m K c ∗ R)
      ⊢ wp frame (wpE (defs₀ (F := F)) 𝒱₀ (c : Thread nD τ) none) Set.univ (k0_part3 i arg1 harg1 arg2 harg2 arg3 harg3 arg4 harg4 arg5 harg5 (Memref.whole cc0_scratch0) (Memref.isWhole_whole _) (Memref.whole cc0_scratch1) (Memref.isWhole_whole _) cc0_scratch2 cc0_scratch3 c v2 h18)
          (fun _ => iprop(sendSt m K c 16 ∗ x8At c (rowSet c) (X8 m c) ∗ xtAt c (colSet c) (XT m c) ∗ owns (c : Thread nD τ) arg1 q (X8 m c) ∗ R)) := by
  rw [k0_part3_eq_skeleton]
  unfold k0_part3_skel
  refine bind_jp c (part2_spec m K c i arg1 harg1 arg2 harg2 arg3 harg3 arg4 harg4 arg5 harg5 v2 h18) fun _ => ?_
  refine send_jp m K c ⟨6, by decide⟩ (send_if6 c) k0_dev23_eq rfl (k0_off16_eq c) rfl (k0_off15_eq c) ?_
  refine send_jp m K c ⟨7, by decide⟩ (send_if7 c) k0_dev24_eq rfl (k0_off18_eq c) rfl (k0_off17_eq c) ?_
  refine send_jp m K c ⟨8, by decide⟩ (send_if8 c) k0_dev25_eq rfl (k0_off20_eq c) rfl (k0_off19_eq c) ?_
  refine send_jp m K c ⟨9, by decide⟩ (send_if9 c) k0_dev26_eq rfl (k0_off22_eq c) rfl (k0_off21_eq c) ?_
  refine send_jp m K c ⟨10, by decide⟩ (send_if10 c) k0_dev27_eq rfl (k0_off24_eq c) rfl (k0_off23_eq c) ?_
  refine send_jp m K c ⟨11, by decide⟩ (send_if11 c) k0_dev28_eq rfl (k0_off26_eq c) rfl (k0_off25_eq c) ?_
  refine send_jp m K c ⟨12, by decide⟩ (send_if12 c) k0_dev29_eq rfl (k0_off28_eq c) rfl (k0_off27_eq c) ?_
  refine send_jp m K c ⟨13, by decide⟩ (send_if13 c) k0_dev30_eq rfl (k0_off30_eq c) rfl (k0_off29_eq c) ?_
  refine send_jp m K c ⟨14, by decide⟩ (send_if14 c) k0_dev31_eq rfl (k0_off32_eq c) rfl (k0_off31_eq c) ?_
  refine send_jp m K c ⟨15, by decide⟩ (send_if15 c) k0_dev32_eq rfl (k0_off34_eq c) rfl (k0_off33_eq c) ?_
  rw [Prog.pure_eq_ret, wp_ret]
  iintro H
  imodintro
  iexact H

end Steps

end Cert.KernelIdeal.Hand
-- ==== Proof.Back.lean ====
/-
# One step of the send waits
-/
module

public import proofs.«01_k».proof.Proof.Recv

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ UU ℕ

section Steps

variable (K : Dev nD × J → ℕ) (c : Dev nD)

/-! ### The send waits -/

def backA (d : Dev nD) : sProp 𝕄 := iprop(cred (tallyAt (sendCell c d) () N) ∗ atPos ER (sendCell c d) 0 ∅ 0)
def backB (d : Dev nD) : sProp 𝕄 := semVal (sendCell c d) 0

/-- The state of the send waits: likewise, with the rows of `x8` that are back. -/
def backSt (k : ℕ) : sProp 𝕄 :=
  iprop(records m K ∗ bigSep (rem c k) (backA c) ∗ x8At c (doneRows c k) (X8 m c) ∗ bigSep (dn c k) (backB c)
    ∗ ∃ W, owes (c : Thread nD τ) 0 W)

theorem back_jp (d : Dev nD) {cond : BitVec 1} (hc : cond = 1#1 ↔ d ≠ c)
    {off₀ off₁ : Fin 2 → ℕ} {off₂ : Fin 1 → ℕ} {inb₀} {inb₁ : cond = 1#1 → _} {inb₂} {sq₂ : S1.Squeezes S_} (h₂ : off₂ = ![d.val])
    {hsrc : ∀ h : cond = 1#1, (colM off₁ (inb₁ h)).view.WordExact} {hdst : (rowM off₀ inb₀).view.WordExact}
    {R : sProp 𝕄} {α : Type} {Q : α → sProp 𝕄} {Jp : Prog (TpuEff nD τ sig (Elt F) Λ₀ .tc) α}
    (hJ : iprop(backSt m K c (d.val + 1) ∗ R) ⊢ wp frame (wpE (defs₀ (F := F)) 𝒱₀ (c : Thread nD τ) none) Set.univ Jp Q) :
    iprop(backSt m K c d.val ∗ R)
      ⊢ wp frame (wpE (defs₀ (F := F)) 𝒱₀ (c : Thread nD τ) none) Set.univ (if h : cond = 1#1 then
          (Prog.lift (.waitDma2 ((cc0_scratch2.slice (Rect.unit (s := S16) off₂ S1.size inb₂)).squeeze S_ sq₂).sem (colM off₁ (inb₁ h)) (rowM off₀ inb₀) (hsrc h) hdst)
            >>= fun _ => Jp) else Jp) Q := by
  by_cases h : cond = 1#1
  · rw [dif_pos h, sendSem_eq h₂]
    have hd : d ≠ c := hc.mp h
    simp only [Prog.lift, Prog.bind_op, Prog.bind_ret]
    unfold backSt
    rw [rem_step hd]
    rw [bs_insert (not_mem_rem c d)]
    iintro ⟨⟨#Hrec, ⟨HA, HB⟩, Hx8, HD, ⟨%W, HO⟩⟩, HR⟩
    ihave #HI := (records_at m K (c, .inr (.inl d))) $$ Hrec
    icases HI with ⟨#Hinv, #Hreach⟩
    unfold backA
    icases HA with ⟨Hcr, Hat⟩
    iapply (Rounds.wp_wait_rest_token 𝒱₀ ER (xRd m) (c : Thread nD τ) none (κ := K (c, .inr (.inl d)))
        (wpE_waitDma2_eq 𝒱₀ (c : Thread nD τ) none Set.univ) (Set.mem_univ _) () (O := 0) (W := W) (R := 0) (m := 0) (T := ∅)
        (by rw [Nat.zero_add, amt_row, expect_send m c hd])) $$ [Hcr HO Hat]
    · isplitr; · iexact Hinv
      isplitl [Hcr]; · (rw [amt_row]; iexact Hcr)
      isplitl [HO]; · iexact HO
      isplitr; · rw [MayWait_zero]; iempintro
      iexact Hat
    iintro ⟨HO, Hat, -, Hpay⟩
    ihave Hnew := (Entails.of_eq (rest_send m c hd)) $$ Hpay
    imod (Rounds.cell_close ER (xRd m) (Set.mem_univ (K (c, .inr (.inl d)))) (fun h => h) (R := 0 + 1) (duties_later m (sendCell c d))) $$ [Hat] with Hz
    · isplitr; · iexact Hinv
      iexact Hat
    iapply hJ
    unfold backSt
    rw [dn_step hd, bs_insert (not_mem_dn c d), doneRows_step]
    isplitr [HR]
    · isplitr; · iexact Hrec
      isplitl [HB]; · iexact HB
      isplitl [Hx8 Hnew]
      · unfold x8At
        iapply (pointsTo_union (doneRows_disj c hd)).2
        isplitl [Hnew] <;> iassumption
      isplitl [Hz HD]
      · isplitl [Hz]; · (unfold backB; iexact Hz)
        iexact HD
      iexists _; iexact HO
    · iexact HR
  · have hd : d = c := by by_contra h'; exact h (hc.mpr h')
    rw [dif_neg h]
    subst hd
    refine (Entails.of_eq ?_).trans hJ
    unfold backSt
    rw [rem_skip, dn_skip, doneRows_skip]

end Steps

end Cert.KernelIdeal.Hand
-- ==== Proof.Entry.lean ====
/-
# Between the phases

The wait at the entry barrier, what each phase hands to the next, and the read of a point's columns of `xt`.
-/
module

public import proofs.«01_k».proof.Proof.Sends
public import proofs.«01_k».proof.Proof.Back

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ UU ℕ

section Steps

variable (K : Dev nD × J → ℕ) (c : Dev nD)

theorem dif_pos_jp {p : Prop} [Decidable p] (h : p) {α : Type} {A : p → Prog (TpuEff nD τ sig (Elt F) Λ₀ .tc) α} {B : ¬p → Prog (TpuEff nD τ sig (Elt F) Λ₀ .tc) α} {P : sProp 𝕄} {Q : α → sProp 𝕄}
    (H : P ⊢ wp frame (wpE (defs₀ (F := F)) 𝒱₀ (c : Thread nD τ) none) Set.univ (A h) Q) : P ⊢ wp frame (wpE (defs₀ (F := F)) 𝒱₀ (c : Thread nD τ) none) Set.univ (if h : p then A h else B h) Q := by rw [dif_pos h]; exact H
theorem dif_neg_jp {p : Prop} [Decidable p] (h : ¬p) {α : Type} {A : p → Prog (TpuEff nD τ sig (Elt F) Λ₀ .tc) α} {B : ¬p → Prog (TpuEff nD τ sig (Elt F) Λ₀ .tc) α} {P : sProp 𝕄} {Q : α → sProp 𝕄}
    (H : P ⊢ wp frame (wpE (defs₀ (F := F)) 𝒱₀ (c : Thread nD τ) none) Set.univ (B h) Q) : P ⊢ wp frame (wpE (defs₀ (F := F)) 𝒱₀ (c : Thread nD τ) none) Set.univ (if h : p then A h else B h) Q := by rw [dif_neg h]; exact H

theorem dev_jp {α : Type} {k : Dev nD → Prog (TpuEff nD τ sig (Elt F) Λ₀ .tc) α} {P : sProp 𝕄} {Q : α → sProp 𝕄}
    (H : P ⊢ wp frame (wpE (defs₀ (F := F)) 𝒱₀ (c : Thread nD τ) none) Set.univ (k c) Q) : P ⊢ wp frame (wpE (defs₀ (F := F)) 𝒱₀ (c : Thread nD τ) none) Set.univ (Prog.lift .deviceId >>= k) Q := by
  simp only [Prog.lift, Prog.bind_op, Prog.bind_ret, wp_deviceId]; exact H

theorem pure_l {φ : Prop} {A B : sProp 𝕄} (h : φ → A ⊢ B) : iprop(⌜φ⌝ ∗ A) ⊢ B := by
  iintro ⟨%e, H⟩
  iapply (h e); iexact H

theorem ex_l {α : Type} {A : α → sProp 𝕄} {B : sProp 𝕄} (h : ∀ a, A a ⊢ B) : iprop(∃ a, A a) ⊢ B := by
  iintro ⟨%a, H⟩
  iapply (h a); iexact H

/-- What a device needs to wait at the entry barrier. -/
def barA : sProp 𝕄 := iprop(cred (tallyAt (barCell c) () 15) ∗ atPos ER (barCell c) 0 ∅ 0 ∗ levAts L lv)

/-- The wait for the fifteen signals: every other device's columns for `c` come with it. -/
theorem bar_jp {R : sProp 𝕄} {α : Type} {Q : α → sProp 𝕄} {k : PUnit → Prog (TpuEff nD τ sig (Elt F) Λ₀ .tc) α}
    (hJ : iprop((records m K ∗ bigSep (rem c 0) (fun d => iprop(∃ f, xtAt (F := F) d (colSet c) f)) ∗ (∃ W, owes (c : Thread nD τ) (recvDue c 0) W))
        ∗ semVal (barCell c) 0 ∗ R) ⊢ wp frame (wpE (defs₀ (F := F)) 𝒱₀ (c : Thread nD τ) none) Set.univ (k ⟨⟩) Q) :
    iprop(sigSt m K c 16 ∗ barA c ∗ R) ⊢ wp frame (wpE (defs₀ (F := F)) 𝒱₀ (c : Thread nD τ) none) Set.univ (semWaitWord barS 15#32 >>= k) Q := by
  simp only [semWaitWord, Prog.bind_op, Prog.bind_ret]
  unfold sigSt barA
  rw [barDue_last, zero_add]
  iintro ⟨⟨#Hrec, -, ⟨%W, HO⟩⟩, ⟨Hcr, Hat, #Hlev⟩, HR⟩
  ihave #HI := (records_at m K (c, .inl ())) $$ Hrec
  icases HI with ⟨#Hinv, #Hreach⟩
  iapply (Rounds.wp_wait_rest_token 𝒱₀ ER (xRd m) (c : Thread nD τ) none (κ := K (c, .inl ()))
      (wpE_semWait_eq 𝒱₀ (c : Thread nD τ) none Set.univ) (Set.mem_univ _) () (O := recvDue c 0) (W := W) (R := 0) (m := 0) (T := ∅)
      (by rw [expect_bar]; decide)) $$ [Hcr HO Hat]
  · isplitr; · iexact Hinv
    isplitl [Hcr]; · iexact Hcr
    isplitl [HO]; · iexact HO
    isplitr; · iapply (mayWait_bar c 0); iexact Hlev
    iexact Hat
  iintro ⟨HO, Hat, -, Hpay⟩
  ihave Hnew := (Entails.of_eq (rest_bar m c)) $$ Hpay
  imod (Rounds.cell_close ER (xRd m) (Set.mem_univ (K (c, .inl ()))) (fun h => h) (R := 0 + 1) (duties_later m (barCell c))) $$ [Hat] with Hz
  · isplitr; · iexact Hinv
    iexact Hat
  iapply hJ
  rw [rem_zero]
  isplitr [Hz HR]
  · isplitr; · iexact Hrec
    isplitl [Hnew]; · iexact Hnew
    iexists _; iexact HO
  isplitl [Hz] <;> iassumption

/-- All sent: the receive waits begin. -/
theorem recv_start {R : sProp 𝕄} : iprop(sendSt m K c 16 ∗ xtAt c (colSet c) (XT m c) ∗ bigSep (rem c 0) (recvA c) ∗ R)
    ⊢ iprop(recvSt m K c 0 ∗ bigSep (dn c 16) (sendB (F := F) c) ∗ R) := by
  unfold sendSt recvSt
  rw [recvDue_last, rem_last, bs_none, dn_zero, bs_none, doneCols_zero]
  iintro ⟨⟨#Hrec, -, Hs, HO⟩, Hxt, HA, HR⟩
  isplitr [Hs HR]
  · isplitr; · iexact Hrec
    isplitl [HA]; · iexact HA
    isplitl [Hxt]; · iexact Hxt
    isplitr; · iempintro
    iexact HO
  isplitl [Hs] <;> iassumption

/-- All received and read: the send waits begin. -/
theorem back_start {R : sProp 𝕄} :
    iprop(recvSt m K c 16 ∗ bigSep (dn c 16) (sendB (F := F) c) ∗ bigSep (rem c 0) (fun d => atPos ER (sendCell c d) 0 ∅ 0) ∗ x8At c (rowSet c) (X8 m c) ∗ R)
      ⊢ iprop(backSt m K c 0 ∗ xtAt c Finset.univ (XT m c) ∗ bigSep (dn c 16) (recvB (F := F) c) ∗ R) := by
  have e : (bigSep (rem c 0) (backA c) : sProp 𝕄) = iprop(bigSep (rem c 0) (sendB (F := F) c) ∗ bigSep (rem c 0) (fun d => atPos ER (sendCell c d) 0 ∅ 0)) := by
    rw [← bigSep_sep']; rfl
  unfold recvSt backSt
  rw [e, rem_last, bs_none, dn_zero, bs_none, doneCols_last, doneRows_zero, show rem c 0 = dn c 16 from (rem_zero c).trans (dn_last c).symm]
  iintro ⟨⟨#Hrec, -, Hxt, Hz, HO⟩, Hs, HA, Hx8, HR⟩
  isplitr [Hxt Hz HR]
  · isplitr; · iexact Hrec
    isplitl [Hs HA]
    · isplitl [Hs] <;> iassumption
    isplitl [Hx8]; · iexact Hx8
    isplitr; · iempintro
    iexact HO
  isplitl [Hxt]; · iexact Hxt
  isplitl [Hz] <;> iassumption

/-- A load from the columns in place. -/
theorem recv_load_jp {n : ℕ} {off : Fin 2 → ℕ} {sz : Fin 2 → ℕ} {inb} {hl} (hS : (Rect.unit (s := S256x4096) off sz inb).set ⊆ doneCols c n)
    {R : sProp 𝕄} {α : Type} {Q : α → sProp 𝕄} {k : _ → Prog (TpuEff nD τ sig (Elt F) Λ₀ .tc) α}
    (hJ : iprop(recvSt m K c n ∗ R) ⊢ wp frame (wpE (defs₀ (F := F)) 𝒱₀ (c : Thread nD τ) none) Set.univ (k (xtM.view.readAt (Elt F) (Rect.unit (s := S256x4096) off sz inb).toLoadRect (XT m c))) Q) :
    iprop(recvSt m K c n ∗ R)
      ⊢ wp frame (wpE (defs₀ (F := F)) 𝒱₀ (c : Thread nD τ) none) Set.univ (Prog.lift (.load xtM (Rect.unit (s := S256x4096) off sz inb).toLoadRect hl) >>= k) Q := by
  unfold recvSt at hJ ⊢
  refine (show _ ⊢ iprop(xtAt c (doneCols c n) (XT m c) ∗ ((records m K ∗ bigSep (rem c n) (recvA (F := F) c) ∗ bigSep (dn c n) (recvB (F := F) c)
    ∗ ∃ W, owes (c : Thread nD τ) 0 W) ∗ R)) from ?_).trans (xt_load_jp c hS (BIBase.Entails.trans ?_ hJ))
  · iintro ⟨⟨#Hrec, HA, Hxt, HD, HO⟩, HR⟩
    isplitl [Hxt]; · iexact Hxt
    isplitr [HR]
    · isplitr; · iexact Hrec
      isplitl [HA]; · iexact HA
      isplitl [HD] <;> iassumption
    iexact HR
  · iintro ⟨Hxt, ⟨#Hrec, HA, HD, HO⟩, HR⟩
    isplitr [HR]
    · isplitr; · iexact Hrec
      isplitl [HA]; · iexact HA
      isplitl [Hxt]; · iexact Hxt
      isplitl [HD] <;> iassumption
    iexact HR

/-! ### A grid point's two blocks -/

def ev (i : grid0.Coords) : Dev nD := ⟨2 * (i 0).val, by have h : (i 0).val < 8 := (i 0).isLt; show _ < 16; omega⟩
def od (i : grid0.Coords) : Dev nD := ⟨2 * (i 0).val + 1, by have h : (i 0).val < 8 := (i 0).isLt; show _ < 16; omega⟩

theorem ev_if : ∀ (i : grid0.Coords) (c : Dev nD), k0_cond35 i c = 1#1 ↔ ev i ≠ c := by decide +kernel
theorem od_if : ∀ (i : grid0.Coords) (c : Dev nD), k0_cond36 i c = 1#1 ↔ od i ≠ c := by decide +kernel

theorem chunk_sub (i : grid0.Coords) (n : ℕ) (hn : n = (od i).val + 1) {inb} :
    (Rect.unit (s := S256x4096) (k0_off39 i) S256x512.size inb).set ⊆ doneCols c n := by
  intro j hj
  rw [Rect.mem_set_unit, Fin.forall_fin_two, k0_off39_eq] at hj
  simp only [Matrix.cons_val_zero, Matrix.cons_val_one] at hj
  have h1 : 512 * (i 0).val ≤ (j 1).val := hj.2.1
  have h2 : (j 1).val < 512 * (i 0).val + 512 := hj.2.2
  subst hn
  refine Finset.mem_filter.mpr ⟨Finset.mem_univ _, .inl ?_⟩
  show (j 1).val / 256 < 2 * (i 0).val + 1 + 1
  omega

/-- The columns of `xt` that point `i` multiplies, once in place. -/
def XB (i : grid0.Coords) : Vec F S256x512 .fp8e4m3 :=
  xtM.view.readAt (Elt F) (Rect.unit (s := S256x4096) (k0_off39 i) S256x512.size (k0_off39_inb i)).toLoadRect (XT m c)

end Steps

end Cert.KernelIdeal.Hand
-- ==== Proof.Backs.lean ====
/-
# The last point's end

The product is scaled, and the first of the send waits are made.
-/
module

public import proofs.«01_k».proof.Proof.Entry

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ UU ℕ

section Steps

variable (K : Dev nD × J → ℕ) (c : Dev nD)

theorem back_if0 : ∀ c : Dev nD, k0_cond40 c = 1#1 ↔ (⟨0, by decide⟩ : Dev nD) ≠ c := by decide +kernel
theorem back_if1 : ∀ c : Dev nD, k0_cond41 c = 1#1 ↔ (⟨1, by decide⟩ : Dev nD) ≠ c := by decide +kernel
theorem back_if2 : ∀ c : Dev nD, k0_cond42 c = 1#1 ↔ (⟨2, by decide⟩ : Dev nD) ≠ c := by decide +kernel
theorem back_if3 : ∀ c : Dev nD, k0_cond43 c = 1#1 ↔ (⟨3, by decide⟩ : Dev nD) ≠ c := by decide +kernel
theorem back_if4 : ∀ c : Dev nD, k0_cond44 c = 1#1 ↔ (⟨4, by decide⟩ : Dev nD) ≠ c := by decide +kernel
theorem back_if5 : ∀ c : Dev nD, k0_cond45 c = 1#1 ↔ (⟨5, by decide⟩ : Dev nD) ≠ c := by decide +kernel
theorem back_if6 : ∀ c : Dev nD, k0_cond46 c = 1#1 ↔ (⟨6, by decide⟩ : Dev nD) ≠ c := by decide +kernel
theorem back_if7 : ∀ c : Dev nD, k0_cond47 c = 1#1 ↔ (⟨7, by decide⟩ : Dev nD) ≠ c := by decide +kernel
theorem back_if8 : ∀ c : Dev nD, k0_cond48 c = 1#1 ↔ (⟨8, by decide⟩ : Dev nD) ≠ c := by decide +kernel
theorem back_if9 : ∀ c : Dev nD, k0_cond49 c = 1#1 ↔ (⟨9, by decide⟩ : Dev nD) ≠ c := by decide +kernel
theorem back_if10 : ∀ c : Dev nD, k0_cond50 c = 1#1 ↔ (⟨10, by decide⟩ : Dev nD) ≠ c := by decide +kernel
theorem back_if11 : ∀ c : Dev nD, k0_cond51 c = 1#1 ↔ (⟨11, by decide⟩ : Dev nD) ≠ c := by decide +kernel
theorem back_if12 : ∀ c : Dev nD, k0_cond52 c = 1#1 ↔ (⟨12, by decide⟩ : Dev nD) ≠ c := by decide +kernel
theorem back_if13 : ∀ c : Dev nD, k0_cond53 c = 1#1 ↔ (⟨13, by decide⟩ : Dev nD) ≠ c := by decide +kernel
theorem back_if14 : ∀ c : Dev nD, k0_cond54 c = 1#1 ↔ (⟨14, by decide⟩ : Dev nD) ≠ c := by decide +kernel
theorem back_if15 : ∀ c : Dev nD, k0_cond55 c = 1#1 ↔ (⟨15, by decide⟩ : Dev nD) ≠ c := by decide +kernel

variable (i : grid0.Coords) (arg1 : Memref sig .tc .vmem S4096x256 .fp8e4m3) (harg1 : arg1.IsWhole) (arg2 : Memref sig .tc .vmem S512x8192 .fp8e4m3) (harg2 : arg2.IsWhole)
  (arg3 : Memref sig .tc .smem S1 .f32) (harg3 : arg3.IsWhole) (arg4 : Memref sig .tc .smem S1 .f32) (harg4 : arg4.IsWhole) (arg5 : Memref sig .tc .vmem S256x8192 .f32) (harg5 : arg5.IsWhole)

set_option maxHeartbeats 1600000 in
theorem part4_spec (v2 : BitVec 32) (h39 : k0_cond39 i = 1#1) {q₃ q₄ : PosShare TreeShare} {sx sy : S1.Idx → Elt F .f32} {A : S256x8192.Idx → Elt F .f32} {R : sProp 𝕄} :
    iprop(owns (c : Thread nD τ) arg5 fullShare A ∗ owns (c : Thread nD τ) arg3 q₃ sx ∗ owns (c : Thread nD τ) arg4 q₄ sy ∗ backSt m K c 0 ∗ R)
      ⊢ wp frame (wpE (defs₀ (F := F)) 𝒱₀ (c : Thread nD τ) none) Set.univ (k0_part4 i arg1 harg1 arg2 harg2 arg3 harg3 arg4 harg4 arg5 harg5 (Memref.whole cc0_scratch0) (Memref.isWhole_whole _) (Memref.whole cc0_scratch1) (Memref.isWhole_whole _) cc0_scratch2 cc0_scratch3 c v2 h39)
          (fun _ => iprop(backSt m K c 7 ∗ owns (c : Thread nD τ) arg5 fullShare (k0_pay3 A (sx i1) (sy i1)) ∗ owns (c : Thread nD τ) arg3 q₃ sx ∗ owns (c : Thread nD τ) arg4 q₄ sy ∗ R)) := by
  rw [k0_part4_eq_skeleton]
  unfold k0_part4_skel
  refine load_jp c zeros2 ?_
  refine sw.trans ?_
  refine sload_jp c zeros1 ?_
  refine sw3.trans ?_
  refine sload_jp c zeros1 ?_
  refine sw3.trans ?_
  refine load_jp c zeros2 ?_
  refine store_jp c zeros2 ?_
  refine (show _ ⊢ iprop(backSt m K c 0 ∗ (owns (c : Thread nD τ) arg5 fullShare (k0_pay3 A (sx i1) (sy i1)) ∗ owns (c : Thread nD τ) arg3 q₃ sx ∗ owns (c : Thread nD τ) arg4 q₄ sy ∗ R)) from ?_).trans ?_
  · iintro ⟨H5, H4, H3, Hb, HR⟩
    isplitl [Hb]; · iexact Hb
    isplitl [H5]; · iexact H5
    isplitl [H3]; · iexact H3
    isplitl [H4] <;> iassumption
  refine back_jp m K c ⟨0, by decide⟩ (back_if0 c) rfl ?_
  refine back_jp m K c ⟨1, by decide⟩ (back_if1 c) rfl ?_
  refine back_jp m K c ⟨2, by decide⟩ (back_if2 c) rfl ?_
  refine back_jp m K c ⟨3, by decide⟩ (back_if3 c) rfl ?_
  refine back_jp m K c ⟨4, by decide⟩ (back_if4 c) rfl ?_
  refine back_jp m K c ⟨5, by decide⟩ (back_if5 c) rfl ?_
  refine back_jp m K c ⟨6, by decide⟩ (back_if6 c) rfl ?_
  rw [Prog.pure_eq_ret, wp_ret]
  iintro H
  imodintro
  iexact H

end Steps

end Cert.KernelIdeal.Hand
-- ==== Proof.Body.lean ====
/-
# A grid point

The first point (barrier, copies, the first two blocks), a later point, and the last.
-/
module

public import proofs.«01_k».proof.Proof.Backs

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ UU ℕ

section Steps

variable (K : Dev nD × J → ℕ) (c : Dev nD)

variable (i : grid0.Coords) (arg1 : Memref sig .tc .vmem S4096x256 .fp8e4m3) (harg1 : arg1.IsWhole) (arg2 : Memref sig .tc .vmem S512x8192 .fp8e4m3) (harg2 : arg2.IsWhole)
  (arg3 : Memref sig .tc .smem S1 .f32) (harg3 : arg3.IsWhole) (arg4 : Memref sig .tc .smem S1 .f32) (harg4 : arg4.IsWhole) (arg5 : Memref sig .tc .vmem S256x8192 .f32) (harg5 : arg5.IsWhole)

set_option maxHeartbeats 1600000 in
/-- A later point up to its product. -/
theorem part5_next (h1 : ¬k0_cond1 i = 1#1) (h18 : ¬k0_cond18 i = 1#1) (h37 : ¬k0_cond37 i = 1#1) (h38 : k0_cond38 i = 1#1)
    {q₂ : PosShare TreeShare} {w : S512x8192.Idx → Elt F .fp8e4m3} {A : S256x8192.Idx → Elt F .f32} {R : sProp 𝕄} :
    iprop(recvSt m K c (2 * (i 0).val) ∗ owns (c : Thread nD τ) arg2 q₂ w ∗ owns (c : Thread nD τ) arg5 fullShare A ∗ R)
      ⊢ wp frame (wpE (defs₀ (F := F)) 𝒱₀ (c : Thread nD τ) none) Set.univ (k0_part5 i arg1 harg1 arg2 harg2 arg3 harg3 arg4 harg4 arg5 harg5 (Memref.whole cc0_scratch0) (Memref.isWhole_whole _) (Memref.whole cc0_scratch1) (Memref.isWhole_whole _) cc0_scratch2 cc0_scratch3)
          (fun r => iprop(⌜r.2.1 = c⌝ ∗ recvSt m K c (2 * (i 0).val + 2) ∗ owns (c : Thread nD τ) arg2 q₂ w ∗ owns (c : Thread nD τ) arg5 fullShare (k0_pay5 w (XB m c i) A) ∗ R)) := by
  rw [k0_part5_eq_skeleton]
  unfold k0_part5_skel
  refine dev_jp c ?_
  refine dif_neg_jp c h1 ?_
  refine dif_neg_jp c h18 ?_
  refine recv_jp m K c (ev i) (ev_if i c) (k0_off35_eq i) ?_
  refine recv_jp m K c (od i) (od_if i c) (k0_off37_eq i) ?_
  refine sw.trans ?_
  refine load_jp c zeros2 ?_
  refine sw.trans ?_
  refine recv_load_jp m K c (chunk_sub c i _ rfl) ?_
  refine sw3.trans ?_
  refine dif_neg_jp c h37 ?_
  refine dif_pos_jp c h38 ?_
  refine load_jp c zeros2 ?_
  refine load_jp c zeros2 ?_
  refine store_jp c zeros2 ?_
  rw [Prog.pure_eq_ret, wp_ret]
  iintro H
  imodintro
  icases H with ⟨H5, Hr, H2, HR⟩
  isplitr; · ipureintro; rfl
  isplitl [Hr]; · iexact Hr
  isplitl [H2]; · iexact H2
  isplitl [H5]; · (unfold XB; iexact H5)
  iexact HR

/-- What the first point starts with. -/
def firstPre : sProp 𝕄 :=
  iprop(sigSt m K c 0 ∗ barA c ∗ bigSep (rem c 0) (sendTok (F := F) c) ∗ bigSep (rem c 0) (recvA (F := F) c)
    ∗ (∃ f, x8At (F := F) c Finset.univ f) ∗ ∃ f, xtAt (F := F) c (colSet c) f)
/-- What it leaves besides the state of the receive waits. -/
def firstPost : sProp 𝕄 :=
  iprop(bigSep (dn c 16) (sendB (F := F) c) ∗ x8At c (rowSet c) (X8 m c) ∗ semVal (barCell c) 0)

set_option maxHeartbeats 3200000 in
/-- The first point. -/
theorem part5_first (h1 : k0_cond1 i = 1#1) (h18 : k0_cond18 i = 1#1) (h37 : k0_cond37 i = 1#1) (h38 : ¬k0_cond38 i = 1#1) (hi : (i 0).val = 0)
    {q₁ q₂ : PosShare TreeShare} {w : S512x8192.Idx → Elt F .fp8e4m3} {A : S256x8192.Idx → Elt F .f32} {R : sProp 𝕄} :
    iprop(firstPre m K c ∗ owns (c : Thread nD τ) arg1 q₁ (X8 m c) ∗ owns (c : Thread nD τ) arg2 q₂ w ∗ owns (c : Thread nD τ) arg5 fullShare A ∗ R)
      ⊢ wp frame (wpE (defs₀ (F := F)) 𝒱₀ (c : Thread nD τ) none) Set.univ (k0_part5 i arg1 harg1 arg2 harg2 arg3 harg3 arg4 harg4 arg5 harg5 (Memref.whole cc0_scratch0) (Memref.isWhole_whole _) (Memref.whole cc0_scratch1) (Memref.isWhole_whole _) cc0_scratch2 cc0_scratch3)
          (fun r => iprop(⌜r.2.1 = c⌝ ∗ recvSt m K c (2 * (i 0).val + 2) ∗ owns (c : Thread nD τ) arg2 q₂ w ∗ owns (c : Thread nD τ) arg5 fullShare (k0_pay4 w (XB m c i))
            ∗ owns (c : Thread nD τ) arg1 q₁ (X8 m c) ∗ firstPost m c ∗ R)) := by
  rw [k0_part5_eq_skeleton]
  unfold k0_part5_skel
  refine dev_jp c ?_
  refine dif_pos_jp c h1 ?_
  unfold firstPre
  refine (show _ ⊢ iprop(sigSt m K c 0 ∗ (barA (F := F) c ∗ (bigSep (rem c 0) (sendTok (F := F) c) ∗ bigSep (rem c 0) (recvA (F := F) c)
    ∗ (∃ f, x8At (F := F) c Finset.univ f) ∗ (∃ f, xtAt (F := F) c (colSet c) f) ∗ owns (c : Thread nD τ) arg1 q₁ (X8 m c) ∗ owns (c : Thread nD τ) arg2 q₂ w ∗ owns (c : Thread nD τ) arg5 fullShare A ∗ R))) from ?_).trans ?_
  · iintro ⟨⟨Hs, Hb, Ht, Hr, Hx8, Hxt⟩, H1, H2, H5, HR⟩
    isplitl [Hs]; · iexact Hs
    isplitl [Hb]; · iexact Hb
    isplitl [Ht]; · iexact Ht
    isplitl [Hr]; · iexact Hr
    isplitl [Hx8]; · iexact Hx8
    isplitl [Hxt]; · iexact Hxt
    isplitl [H1]; · iexact H1
    isplitl [H2]; · iexact H2
    isplitl [H5] <;> iassumption
  refine bind_jp c (part1_spec m K c i arg1 harg1 arg2 harg2 arg3 harg3 arg4 harg4 arg5 harg5 _ h1) fun v => ?_
  refine pure_l fun e => ?_
  subst e
  refine sig_jp m K c ⟨9, by decide⟩ (sig_if9 c) k0_dev10_eq ?_
  refine sig_jp m K c ⟨10, by decide⟩ (sig_if10 c) k0_dev11_eq ?_
  refine sig_jp m K c ⟨11, by decide⟩ (sig_if11 c) k0_dev12_eq ?_
  refine sig_jp m K c ⟨12, by decide⟩ (sig_if12 c) k0_dev13_eq ?_
  refine sig_jp m K c ⟨13, by decide⟩ (sig_if13 c) k0_dev14_eq ?_
  refine sig_jp m K c ⟨14, by decide⟩ (sig_if14 c) k0_dev15_eq ?_
  refine sig_jp m K c ⟨15, by decide⟩ (sig_if15 c) k0_dev16_eq ?_
  refine bar_jp m K c ?_
  refine dif_pos_jp c h18 ?_
  refine (show _ ⊢ iprop(∃ f8, ∃ ft, owns (c : Thread nD τ) arg1 q₁ (X8 m c) ∗ x8At c Finset.univ f8 ∗ xtAt c (colSet c) ft ∗ sendPre m K c
    ∗ (bigSep (rem c 0) (recvA (F := F) c) ∗ semVal (barCell c) 0 ∗ owns (c : Thread nD τ) arg2 q₂ w ∗ owns (c : Thread nD τ) arg5 fullShare A ∗ R)) from ?_).trans ?_
  · unfold sendPre
    iintro ⟨⟨#Hrec, Hcols, HO⟩, Hz, Ht, Hr, ⟨%f8, Hx8⟩, ⟨%ft, Hxt⟩, H1, H2, H5, HR⟩
    iexists f8; iexists ft
    isplitl [H1]; · iexact H1
    isplitl [Hx8]; · iexact Hx8
    isplitl [Hxt]; · iexact Hxt
    isplitl [Hcols HO Ht]
    · isplitr; · iexact Hrec
      isplitl [Hcols]; · iexact Hcols
      isplitl [Ht] <;> iassumption
    isplitl [Hr]; · iexact Hr
    isplitl [Hz]; · iexact Hz
    isplitl [H2]; · iexact H2
    isplitl [H5] <;> iassumption
  refine ex_l fun f8 => ex_l fun ft => ?_
  refine bind_jp c (part3_spec m K c i arg1 harg1 arg2 harg2 arg3 harg3 arg4 harg4 arg5 harg5 _ h18) fun _ => ?_
  refine (show _ ⊢ iprop(sendSt m K c 16 ∗ xtAt c (colSet c) (XT m c) ∗ bigSep (rem c 0) (recvA (F := F) c)
    ∗ (owns (c : Thread nD τ) arg2 q₂ w ∗ owns (c : Thread nD τ) arg5 fullShare A ∗ owns (c : Thread nD τ) arg1 q₁ (X8 m c) ∗ x8At c (rowSet c) (X8 m c) ∗ semVal (barCell c) 0 ∗ R)) from ?_).trans ((recv_start m K c).trans ?_)
  · iintro ⟨Hs, Hx8, Hxt, H1, Hr, Hz, H2, H5, HR⟩
    isplitl [Hs]; · iexact Hs
    isplitl [Hxt]; · iexact Hxt
    isplitl [Hr]; · iexact Hr
    isplitl [H2]; · iexact H2
    isplitl [H5]; · iexact H5
    isplitl [H1]; · iexact H1
    isplitl [Hx8]; · iexact Hx8
    isplitl [Hz] <;> iassumption
  refine (show _ ⊢ iprop(recvSt m K c (ev i).val ∗ owns (c : Thread nD τ) arg2 q₂ w ∗ owns (c : Thread nD τ) arg5 fullShare A ∗ (owns (c : Thread nD τ) arg1 q₁ (X8 m c) ∗ firstPost m c ∗ R)) from ?_).trans ?_
  · rw [show (ev i).val = 0 from congrArg (2 * ·) hi]
    unfold firstPost
    iintro ⟨Hs, Hsb, H2, H5, H1, Hx8, Hz, HR⟩
    isplitl [Hs]; · iexact Hs
    isplitl [H2]; · iexact H2
    isplitl [H5]; · iexact H5
    isplitl [H1]; · iexact H1
    isplitr [HR]
    · isplitl [Hsb]; · iexact Hsb
      isplitl [Hx8] <;> iassumption
    iexact HR
  refine recv_jp m K c (ev i) (ev_if i c) (k0_off35_eq i) ?_
  refine recv_jp m K c (od i) (od_if i c) (k0_off37_eq i) ?_
  refine sw.trans ?_
  refine load_jp c zeros2 ?_
  refine sw.trans ?_
  refine recv_load_jp m K c (chunk_sub c i _ rfl) ?_
  refine sw3.trans ?_
  refine dif_pos_jp c h37 ?_
  refine load_jp c zeros2 ?_
  refine store_jp c zeros2 ?_
  refine dif_neg_jp c h38 ?_
  rw [Prog.pure_eq_ret, wp_ret]
  iintro H
  imodintro
  icases H with ⟨H5, Hr, H2, HR⟩
  isplitr; · ipureintro; rfl
  isplitl [Hr]; · iexact Hr
  isplitl [H2]; · iexact H2
  isplitl [H5]; · (unfold XB; iexact H5)
  iexact HR

/-- The first point. -/
theorem body_first (h1 : k0_cond1 i = 1#1) (h18 : k0_cond18 i = 1#1) (h37 : k0_cond37 i = 1#1) (h38 : ¬k0_cond38 i = 1#1) (hi : (i 0).val = 0) (h39 : ¬k0_cond39 i = 1#1)
    {q₁ q₂ : PosShare TreeShare} {w : S512x8192.Idx → Elt F .fp8e4m3} {A : S256x8192.Idx → Elt F .f32} {R : sProp 𝕄} :
    iprop(firstPre m K c ∗ owns (c : Thread nD τ) arg1 q₁ (X8 m c) ∗ owns (c : Thread nD τ) arg2 q₂ w ∗ owns (c : Thread nD τ) arg5 fullShare A ∗ R)
      ⊢ wp frame (wpE (defs₀ (F := F)) 𝒱₀ (c : Thread nD τ) none) Set.univ (cc0_body i arg1 harg1 arg2 harg2 arg3 harg3 arg4 harg4 arg5 harg5 (Memref.whole cc0_scratch0) (Memref.isWhole_whole _) (Memref.whole cc0_scratch1) (Memref.isWhole_whole _) cc0_scratch2 cc0_scratch3)
          (fun _ => iprop(recvSt m K c (2 * (i 0).val + 2) ∗ owns (c : Thread nD τ) arg2 q₂ w ∗ owns (c : Thread nD τ) arg5 fullShare (k0_pay4 w (XB m c i))
            ∗ owns (c : Thread nD τ) arg1 q₁ (X8 m c) ∗ firstPost m c ∗ R)) := by
  rw [cc0_body_eq_skeleton]
  unfold cc0_body_skel
  refine bind_jp c (part5_first m K c i arg1 harg1 arg2 harg2 arg3 harg3 arg4 harg4 arg5 harg5 h1 h18 h37 h38 hi) fun r => ?_
  refine pure_l fun e => ?_
  refine dif_neg_jp c h39 ?_
  rw [Prog.pure_eq_ret, wp_ret]
  iintro H
  imodintro
  iexact H

/-- A point between. -/
theorem body_next (h1 : ¬k0_cond1 i = 1#1) (h18 : ¬k0_cond18 i = 1#1) (h37 : ¬k0_cond37 i = 1#1) (h38 : k0_cond38 i = 1#1) (h39 : ¬k0_cond39 i = 1#1)
    {q₂ : PosShare TreeShare} {w : S512x8192.Idx → Elt F .fp8e4m3} {A : S256x8192.Idx → Elt F .f32} {R : sProp 𝕄} :
    iprop(recvSt m K c (2 * (i 0).val) ∗ owns (c : Thread nD τ) arg2 q₂ w ∗ owns (c : Thread nD τ) arg5 fullShare A ∗ R)
      ⊢ wp frame (wpE (defs₀ (F := F)) 𝒱₀ (c : Thread nD τ) none) Set.univ (cc0_body i arg1 harg1 arg2 harg2 arg3 harg3 arg4 harg4 arg5 harg5 (Memref.whole cc0_scratch0) (Memref.isWhole_whole _) (Memref.whole cc0_scratch1) (Memref.isWhole_whole _) cc0_scratch2 cc0_scratch3)
          (fun _ => iprop(recvSt m K c (2 * (i 0).val + 2) ∗ owns (c : Thread nD τ) arg2 q₂ w ∗ owns (c : Thread nD τ) arg5 fullShare (k0_pay5 w (XB m c i) A) ∗ R)) := by
  rw [cc0_body_eq_skeleton]
  unfold cc0_body_skel
  refine bind_jp c (part5_next m K c i arg1 harg1 arg2 harg2 arg3 harg3 arg4 harg4 arg5 harg5 h1 h18 h37 h38) fun r => ?_
  refine pure_l fun e => ?_
  refine dif_neg_jp c h39 ?_
  rw [Prog.pure_eq_ret, wp_ret]
  iintro H
  imodintro
  iexact H

/-- What the last point leaves besides the state of the send waits. -/
def lastPost : sProp 𝕄 := iprop(xtAt c Finset.univ (XT m c) ∗ bigSep (dn c 16) (recvB (F := F) c))

set_option maxHeartbeats 1600000 in
/-- The last point. -/
theorem body_last (h1 : ¬k0_cond1 i = 1#1) (h18 : ¬k0_cond18 i = 1#1) (h37 : ¬k0_cond37 i = 1#1) (h38 : k0_cond38 i = 1#1) (h39 : k0_cond39 i = 1#1) (hi : (i 0).val = 7)
    {q₂ q₃ q₄ : PosShare TreeShare} {w : S512x8192.Idx → Elt F .fp8e4m3} {sx sy : S1.Idx → Elt F .f32} {A : S256x8192.Idx → Elt F .f32} {R : sProp 𝕄} :
    iprop(recvSt m K c (2 * (i 0).val) ∗ owns (c : Thread nD τ) arg2 q₂ w ∗ owns (c : Thread nD τ) arg5 fullShare A
        ∗ (owns (c : Thread nD τ) arg3 q₃ sx ∗ owns (c : Thread nD τ) arg4 q₄ sy ∗ bigSep (dn c 16) (sendB (F := F) c) ∗ bigSep (rem c 0) (fun d => atPos ER (sendCell c d) 0 ∅ 0) ∗ x8At c (rowSet c) (X8 m c) ∗ R))
      ⊢ wp frame (wpE (defs₀ (F := F)) 𝒱₀ (c : Thread nD τ) none) Set.univ (cc0_body i arg1 harg1 arg2 harg2 arg3 harg3 arg4 harg4 arg5 harg5 (Memref.whole cc0_scratch0) (Memref.isWhole_whole _) (Memref.whole cc0_scratch1) (Memref.isWhole_whole _) cc0_scratch2 cc0_scratch3)
          (fun _ => iprop(backSt m K c 16 ∗ owns (c : Thread nD τ) arg5 fullShare (k0_pay3 (k0_pay5 w (XB m c i) A) (sx i1) (sy i1)) ∗ owns (c : Thread nD τ) arg3 q₃ sx ∗ owns (c : Thread nD τ) arg4 q₄ sy
            ∗ owns (c : Thread nD τ) arg2 q₂ w ∗ lastPost m c ∗ R)) := by
  rw [cc0_body_eq_skeleton]
  unfold cc0_body_skel
  refine bind_jp c (part5_next m K c i arg1 harg1 arg2 harg2 arg3 harg3 arg4 harg4 arg5 harg5 h1 h18 h37 h38) fun r => ?_
  refine pure_l fun e => ?_
  obtain ⟨a0, d0, v2⟩ := r
  change d0 = c at e
  subst e
  refine dif_pos_jp d0 h39 ?_
  rw [hi]
  refine (show _ ⊢ iprop(recvSt m K d0 16 ∗ bigSep (dn d0 16) (sendB (F := F) d0) ∗ bigSep (rem d0 0) (fun d => atPos ER (sendCell d0 d) 0 ∅ 0) ∗ x8At d0 (rowSet d0) (X8 m d0)
    ∗ (owns (d0 : Thread nD τ) arg2 q₂ w ∗ owns (d0 : Thread nD τ) arg5 fullShare (k0_pay5 w (XB m d0 i) A) ∗ owns (d0 : Thread nD τ) arg3 q₃ sx ∗ owns (d0 : Thread nD τ) arg4 q₄ sy ∗ R)) from ?_).trans ((back_start m K d0).trans ?_)
  · iintro ⟨Hr, H2, H5, H3, H4, Hs, Ha, Hx8, HR⟩
    isplitl [Hr]; · iexact Hr
    isplitl [Hs]; · iexact Hs
    isplitl [Ha]; · iexact Ha
    isplitl [Hx8]; · iexact Hx8
    isplitl [H2]; · iexact H2
    isplitl [H5]; · iexact H5
    isplitl [H3]; · iexact H3
    isplitl [H4] <;> iassumption
  refine (show _ ⊢ iprop(owns (d0 : Thread nD τ) arg5 fullShare (k0_pay5 w (XB m d0 i) A) ∗ owns (d0 : Thread nD τ) arg3 q₃ sx ∗ owns (d0 : Thread nD τ) arg4 q₄ sy ∗ backSt m K d0 0
    ∗ (owns (d0 : Thread nD τ) arg2 q₂ w ∗ lastPost m d0 ∗ R)) from ?_).trans ?_
  · unfold lastPost
    iintro ⟨Hb, Hxt, Hz, H2, H5, H3, H4, HR⟩
    isplitl [H5]; · iexact H5
    isplitl [H3]; · iexact H3
    isplitl [H4]; · iexact H4
    isplitl [Hb]; · iexact Hb
    isplitl [H2]; · iexact H2
    isplitr [HR]
    · isplitl [Hxt] <;> iassumption
    iexact HR
  refine bind_jp d0 (part4_spec m K d0 i arg1 harg1 arg2 harg2 arg3 harg3 arg4 harg4 arg5 harg5 v2 h39) fun _ => ?_
  refine back_jp m K d0 ⟨7, by decide⟩ (back_if7 d0) rfl ?_
  refine back_jp m K d0 ⟨8, by decide⟩ (back_if8 d0) rfl ?_
  refine back_jp m K d0 ⟨9, by decide⟩ (back_if9 d0) rfl ?_
  refine back_jp m K d0 ⟨10, by decide⟩ (back_if10 d0) rfl ?_
  refine back_jp m K d0 ⟨11, by decide⟩ (back_if11 d0) rfl ?_
  refine back_jp m K d0 ⟨12, by decide⟩ (back_if12 d0) rfl ?_
  refine back_jp m K d0 ⟨13, by decide⟩ (back_if13 d0) rfl ?_
  refine back_jp m K d0 ⟨14, by decide⟩ (back_if14 d0) rfl ?_
  refine back_jp m K d0 ⟨15, by decide⟩ (back_if15 d0) rfl ?_
  rw [Prog.pure_eq_ret, wp_ret]
  iintro H
  imodintro
  iexact H

end Steps

end Cert.KernelIdeal.Hand
-- ==== Proof.Dats.lean ====
/-
# The proof data

What the result's buffer holds after each grid point, the state between points, and the body obligation.
-/
module

public import proofs.«01_k».proof.Proof.Body

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ UU ℕ

/-! ## The result's buffer after each point -/

/-- The grid point of a number. -/
def pt (n : ℕ) : Fin cfg0.N := (⟨n % 8, by rw [N_0]; exact Nat.mod_lt _ (by decide)⟩ : Fin grid0.N)

theorem pt_val (t : Fin cfg0.N) : pt t.val = t := by
  apply Fin.ext
  have h : t.val < 8 := Nat.lt_of_lt_of_eq t.isLt N_0
  show t.val % 8 = t.val
  omega

/-- The block of `w` a point reads. -/
def wAt (c : Dev nD) (n : ℕ) : S512x8192.Idx → Elt F .fp8e4m3 := iblk m c 1 (pt n)

/-- The sum of the products up to a point. -/
def accA (c : Dev nD) : ℕ → S256x8192.Idx → Elt F .f32
  | 0 => k0_pay4 (wAt m c 0) (XB m c (grid0.coords (pt 0)))
  | n + 1 => k0_pay5 (wAt m c (n + 1)) (XB m c (grid0.coords (pt (n + 1)))) (accA c n)

/-- The result's buffer after a point: the sum so far, scaled at the last. -/
def outA (c : Dev nD) (n : ℕ) : S256x8192.Idx → Elt F .f32 :=
  if n = 7 then k0_pay3 (accA m c 7) (iblk m c 2 (pt 7) i1) (iblk m c 3 (pt 7) i1) else accA m c n

/-! ## The state between points -/

/-- The exchange's state at a device before its first point, the buffers apart. -/
def start (c : Dev nD) : sProp 𝕄 :=
  iprop(∃ K, records m K ∗ bigSep (rem c 0) (fun d => dutyTok ER (barCell d) 0 c) ∗ barA c ∗ bigSep (rem c 0) (sendTok (F := F) c)
    ∗ bigSep (rem c 0) (recvA (F := F) c) ∗ bigSep (rem c 0) (fun d => atPos ER (sendCell c d) 0 ∅ 0)
    ∗ semVal (sendCell c c) 0 ∗ semVal (recvCell c c) 0)

def phiFirst (c : Dev nD) : sProp 𝕄 :=
  iprop(start m c ∗ (∃ f, x8At (F := F) c Finset.univ f) ∗ ∃ f, xtAt (F := F) c Finset.univ f)

/-- What a device keeps from its first point to its last. -/
def kept (c : Dev nD) : sProp 𝕄 :=
  iprop(bigSep (dn c 16) (sendB (F := F) c) ∗ bigSep (rem c 0) (fun d => atPos ER (sendCell c d) 0 ∅ 0) ∗ x8At c (rowSet c) (X8 m c)
    ∗ semVal (barCell c) 0 ∗ semVal (sendCell c c) 0 ∗ semVal (recvCell c c) 0)

def phiMid (c : Dev nD) (n : ℕ) : sProp 𝕄 :=
  iprop((∃ K, records m K ∗ bigSep (rem c (2 * n)) (recvA c) ∗ xtAt c (doneCols c (2 * n)) (XT m c) ∗ bigSep (dn c (2 * n)) (recvB c)) ∗ kept m c)

def phiLast (c : Dev nD) : sProp 𝕄 :=
  iprop((∃ f, x8At (F := F) c Finset.univ f) ∗ (∃ f, xtAt (F := F) c Finset.univ f) ∗ semVal (barCell c) 0
    ∗ bigSep Finset.univ (fun d => semVal (sendCell c d) 0) ∗ bigSep Finset.univ (fun d => semVal (recvCell c d) 0))

def phiAt (c : Dev nD) (n : ℕ) : sProp 𝕄 := if n = 0 then phiFirst m c else if n = 8 then phiLast c else phiMid m c n

def owedAt (c : Dev nD) (n : ℕ) : CellTallies nD τ sig Unit := if n = 0 then due c else 0

/-! ## The data -/

def dats (p : Fin 1) (c : Dev nD) : Dat τ (Elt F) Unit ℕ UU ℕ (cfgs p) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outA m c t.val
  Φ t := phiAt m c t.val
  q _ := fullShare
  owed t := owedAt c t.val

theorem before_0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl
theorem before_1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl
theorem before_2 (c : Dev nD) (t : Fin cfg0.N) (d) : (dats m 0 c).before 2 t d = iblk m c 2 t :=
  ((dats m 0 c).before_in_eq_fetched 2 rfl (fun _ => rfl) (fun _ _ _ => rfl) (fun _ => rfl) t d).trans rfl
theorem before_3 (c : Dev nD) (t : Fin cfg0.N) (d) : (dats m 0 c).before 3 t d = iblk m c 3 t :=
  ((dats m 0 c).before_in_eq_fetched 3 rfl (fun _ => rfl) (fun _ _ _ => rfl) (fun _ => rfl) t d).trans rfl

/-- Every point stores into the result's buffer. -/
theorem idle_4 : ∀ i : grid0.Coords, cfg0.idle 4 i = false := by
  show ∀ i : grid0.Coords, idle0 4 i = false
  decide +kernel

theorem before_4 (c : Dev nD) (t : Fin cfg0.N) (ht : t.val ≠ 0) (d) : (dats m 0 c).before 4 t d = outA m c (t.val - 1) := by
  refine (Dat.before_out_kept (dats m 0 c) 4 rfl t ht ?_ idle_4 (fun _ _ => rfl) d).trans rfl
  rw [Bool.eq_false_iff]
  intro h
  have h7 := (flush0_4 _).mp h
  have h8 : t.val < 8 := Nat.lt_of_lt_of_eq t.isLt N_0
  change (t.val - 1) % 8 = 7 at h7
  omega

/-- The first window's block is its whole array. -/
theorem iblk_0 (c : Dev nD) (t : Fin cfg0.N) : iblk m c 0 t = X8 m c := by
  funext j
  show V m c main_arg0 (((cfg0.win 0).blk t).view.emb j) = V m c main_arg0 j
  congr 1
  funext a; apply Fin.ext
  match a with
  | ⟨0, _⟩ => show 0 * 4096 + 1 * (j 0).val = (j 0).val; omega
  | ⟨1, _⟩ => show 0 * 256 + 1 * (j 1).val = (j 1).val; omega

/-! ## Which point is which -/

theorem conds_first : k0_cond1 (grid0.coords t0_0) = 1#1 ∧ k0_cond18 (grid0.coords t0_0) = 1#1 ∧ k0_cond37 (grid0.coords t0_0) = 1#1
    ∧ ¬k0_cond38 (grid0.coords t0_0) = 1#1 ∧ ¬k0_cond39 (grid0.coords t0_0) = 1#1 := by decide +kernel
theorem conds_next : ∀ t : Fin grid0.N, t.val ≠ 0 → ¬k0_cond1 (grid0.coords t) = 1#1 ∧ ¬k0_cond18 (grid0.coords t) = 1#1 ∧ ¬k0_cond37 (grid0.coords t) = 1#1
    ∧ k0_cond38 (grid0.coords t) = 1#1 := by decide +kernel
theorem conds_last : ∀ t : Fin grid0.N, k0_cond39 (grid0.coords t) = 1#1 ↔ t.val = 7 := by decide +kernel
theorem coords_val : ∀ t : Fin grid0.N, ((grid0.coords t) 0).val = t.val := by decide +kernel

/-! ## The body obligation -/

/-- The windows' buffers at a point, each holding what it is given. -/
def stages (c : Dev nD) (t : Fin cfg0.N) (x : S4096x256.Idx → Elt F .fp8e4m3) (w : S512x8192.Idx → Elt F .fp8e4m3) (sx sy : S1.Idx → Elt F .f32)
    (A : S256x8192.Idx → Elt F .f32) : sProp 𝕄 :=
  iprop(owns (c : Thread nD τ) (win0_0.stage (cfg0.slots t 0)) fullShare x ∗ owns (c : Thread nD τ) (win0_1.stage (cfg0.slots t 1)) fullShare w
    ∗ owns (c : Thread nD τ) (win0_2.stage (cfg0.slots t 2)) fullShare sx ∗ owns (c : Thread nD τ) (win0_3.stage (cfg0.slots t 3)) fullShare sy
    ∗ owns (c : Thread nD τ) (win0_4.stage (cfg0.slots t 4)) fullShare A)

/-- The blocks the input windows hold. -/
def stagesAt (c : Dev nD) (t : Fin cfg0.N) (A : S256x8192.Idx → Elt F .f32) : sProp 𝕄 :=
  stages c t (X8 m c) (iblk m c 1 t) (iblk m c 2 t) (iblk m c 3 t) A

/-- The first point. -/
theorem point_first (c : Dev nD) (A : S256x8192.Idx → Elt F .f32) :
    iprop(phiFirst m c ∗ (∃ W, owes (c : Thread nD τ) (due c) W) ∗ stagesAt m c t0_0 A)
      ⊢ wp frame (wpE (defs₀ (F := F)) 𝒱₀ (c : Thread nD τ) none) Set.univ (bodyAt0 t0_0)
          (fun _ => iprop(phiMid m c 1 ∗ (∃ W, owes (c : Thread nD τ) 0 W) ∗ stagesAt m c t0_0 (outA m c 0))) := by
  obtain ⟨h1, h18, h37, h38, h39⟩ := conds_first
  have hi : ((grid0.coords t0_0) 0).val = 0 := coords_val t0_0
  unfold phiFirst start
  iintro ⟨⟨⟨%K, #Hrec, Hbt, Hbar, Hst, Hra, Hat, Hz1, Hz2⟩, Hx8, ⟨%f, Hxt⟩⟩, ⟨%W, HO⟩, Hs⟩
  unfold stagesAt stages
  icases Hs with ⟨H1, H2, H3, H4, H5⟩
  ihave Hxt' := (Entails.of_eq (xt_split c f)) $$ Hxt
  icases Hxt' with ⟨Hown, Hoth⟩
  ihave Hsig := (show iprop(bigSep (rem c 0) (fun d => (dutyTok ER (barCell d) 0 c : sProp 𝕄)) ∗ bigSep (Finset.univ.erase c) (fun d => xtAt c (colSet d) f)) ⊢ bigSep (rem c 0) (sigA (F := F) c) from by
    rw [← rem_zero, ← bigSep_sep']
    refine bigSep_mono fun d _ => ?_
    show iprop(dutyTok ER (barCell d) 0 c ∗ xtAt c (colSet d) f) ⊢ iprop(dutyTok ER (barCell d) 0 c ∗ ∃ f, xtAt c (colSet d) f)
    iintro ⟨Ha, Hb⟩
    isplitl [Ha]; · iexact Ha
    iexists f; iexact Hb) $$ [Hbt Hoth]
  · isplitl [Hbt] <;> iassumption
  iapply (wp_mono _ _ _ (fun _ => ?_))
  rotate_left
  · iapply (body_first m K c (grid0.coords t0_0) _ _ _ _ _ _ _ _ _ _ h1 h18 h37 h38 hi h39 (R := iprop(owns (c : Thread nD τ) (win0_2.stage (cfg0.slots t0_0 2)) fullShare (iblk m c 2 t0_0)
      ∗ owns (c : Thread nD τ) (win0_3.stage (cfg0.slots t0_0 3)) fullShare (iblk m c 3 t0_0) ∗ bigSep (rem c 0) (fun d => atPos ER (sendCell c d) 0 ∅ 0) ∗ semVal (sendCell c c) 0 ∗ semVal (recvCell c c) 0)))
    isplitl [HO Hsig Hbar Hst Hra Hx8 Hown]
    · unfold firstPre sigSt
      isplitl [HO Hsig]
      · isplitr; · iexact Hrec
        isplitl [Hsig]; · iexact Hsig
        iexists W; iexact HO
      isplitl [Hbar]; · iexact Hbar
      isplitl [Hst]; · iexact Hst
      isplitl [Hra]; · iexact Hra
      isplitl [Hx8]; · iexact Hx8
      iexists f; iexact Hown
    isplitl [H1]; · iexact H1
    isplitl [H2]; · iexact H2
    isplitl [H5]; · iexact H5
    isplitl [H3]; · iexact H3
    isplitl [H4]; · iexact H4
    isplitl [Hat]; · iexact Hat
    isplitl [Hz1] <;> iassumption
  rw [hi]
  unfold phiMid kept recvSt firstPost
  iintro ⟨⟨#Hrec, Hra, Hxt, Hz, HO⟩, H2, H5, H1, ⟨Hsb, Hx8, Hzb⟩, H3, H4, Hat, Hz1, Hz2⟩
  isplitr [HO H1 H2 H3 H4 H5]
  · isplitl [Hra Hxt Hz]
    · iexists K
      isplitr; · iexact Hrec
      isplitl [Hra]; · iexact Hra
      isplitl [Hxt] <;> iassumption
    isplitl [Hsb]; · iexact Hsb
    isplitl [Hat]; · iexact Hat
    isplitl [Hx8]; · iexact Hx8
    isplitl [Hzb]; · iexact Hzb
    isplitl [Hz1] <;> iassumption
  isplitl [HO]; · iexact HO
  isplitl [H1]; · iexact H1
  isplitl [H2]; · iexact H2
  isplitl [H3]; · iexact H3
  isplitl [H4]; · iexact H4
  iexact H5

/-- A point between. -/
theorem point_next (c : Dev nD) (t : Fin cfg0.N) (h0 : t.val ≠ 0) (h7 : t.val ≠ 7) :
    iprop(phiMid m c t.val ∗ (∃ W, owes (c : Thread nD τ) 0 W) ∗ stagesAt m c t (outA m c (t.val - 1)))
      ⊢ wp frame (wpE (defs₀ (F := F)) 𝒱₀ (c : Thread nD τ) none) Set.univ (bodyAt0 t)
          (fun _ => iprop(phiMid m c (t.val + 1) ∗ (∃ W, owes (c : Thread nD τ) 0 W) ∗ stagesAt m c t (outA m c t.val))) := by
  obtain ⟨h1, h18, h37, h38⟩ := conds_next t h0
  have h39 : ¬k0_cond39 (grid0.coords t) = 1#1 := fun h => h7 ((conds_last t).mp h)
  have hi : ((grid0.coords t) 0).val = t.val := coords_val t
  have hout : outA m c t.val = k0_pay5 (iblk m c 1 t) (XB m c (grid0.coords t)) (outA m c (t.val - 1)) := by
    have h8 : t.val < 8 := Nat.lt_of_lt_of_eq t.isLt N_0
    unfold outA
    rw [if_neg h7, if_neg (by omega)]
    obtain ⟨n, hn⟩ := Nat.exists_eq_succ_of_ne_zero h0
    have e := pt_val t
    rw [hn] at e ⊢
    show k0_pay5 (iblk m c 1 (pt (n + 1))) (XB m c (grid0.coords (pt (n + 1)))) (accA m c n) = _
    rw [show pt (n + 1) = t from e]
    rfl
  rw [hout]
  unfold phiMid
  iintro ⟨⟨⟨%K, #Hrec, Hra, Hxt, Hz⟩, Hk⟩, HO, Hs⟩
  unfold stagesAt stages
  icases Hs with ⟨H1, H2, H3, H4, H5⟩
  iapply (wp_mono _ _ _ (fun _ => ?_))
  rotate_left
  · iapply (body_next m K c (grid0.coords t) _ _ _ _ _ _ _ _ _ _ h1 h18 h37 h38 h39 (R := iprop(owns (c : Thread nD τ) (win0_0.stage (cfg0.slots t 0)) fullShare (X8 m c)
      ∗ owns (c : Thread nD τ) (win0_2.stage (cfg0.slots t 2)) fullShare (iblk m c 2 t) ∗ owns (c : Thread nD τ) (win0_3.stage (cfg0.slots t 3)) fullShare (iblk m c 3 t) ∗ kept m c)))
    rw [hi]
    isplitl [HO Hra Hxt Hz]
    · unfold recvSt
      isplitr; · iexact Hrec
      isplitl [Hra]; · iexact Hra
      isplitl [Hxt]; · iexact Hxt
      isplitl [Hz] <;> iassumption
    isplitl [H2]; · iexact H2
    isplitl [H5]; · iexact H5
    isplitl [H1]; · iexact H1
    isplitl [H3]; · iexact H3
    isplitl [H4] <;> iassumption
  rw [hi]
  unfold recvSt
  iintro ⟨⟨#Hrec, Hra, Hxt, Hz, HO⟩, H2, H5, H1, H3, H4, Hk⟩
  isplitl [Hra Hxt Hz Hk]
  · isplitl [Hra Hxt Hz]
    · iexists K
      isplitr; · iexact Hrec
      isplitl [Hra]; · iexact Hra
      isplitl [Hxt] <;> iassumption
    iexact Hk
  isplitl [HO]; · iexact HO
  isplitl [H1]; · iexact H1
  isplitl [H2]; · iexact H2
  isplitl [H3]; · iexact H3
  isplitl [H4]; · iexact H4
  iexact H5

/-- Every device's counters for the other devices and its own are all its counters. -/
theorem all_zero (c : Dev nD) (Z : Dev nD → sProp 𝕄) : iprop(bigSep (dn c 16) Z ∗ Z c) ⊢ bigSep Finset.univ Z := by
  rw [dn_last, bigSep_univ_at Z c]
  iintro ⟨Ha, Hb⟩
  isplitl [Hb] <;> iassumption

/-- The last point. -/
theorem point_last (c : Dev nD) :
    iprop(phiMid m c 7 ∗ (∃ W, owes (c : Thread nD τ) 0 W) ∗ stagesAt m c t0_7 (outA m c 6))
      ⊢ wp frame (wpE (defs₀ (F := F)) 𝒱₀ (c : Thread nD τ) none) Set.univ (bodyAt0 t0_7)
          (fun _ => iprop(phiLast c ∗ (∃ W, owes (c : Thread nD τ) 0 W) ∗ stagesAt m c t0_7 (outA m c 7))) := by
  obtain ⟨h1, h18, h37, h38⟩ := conds_next t0_7 (by decide)
  have h39 : k0_cond39 (grid0.coords t0_7) = 1#1 := (conds_last t0_7).mpr rfl
  have hi : ((grid0.coords t0_7) 0).val = 7 := coords_val t0_7
  have hout : outA m c 7 = k0_pay3 (k0_pay5 (iblk m c 1 t0_7) (XB m c (grid0.coords t0_7)) (outA m c 6)) (iblk m c 2 t0_7 i1) (iblk m c 3 t0_7 i1) := rfl
  rw [hout]
  unfold phiMid kept
  iintro ⟨⟨⟨%K, #Hrec, Hra, Hxt, Hz⟩, Hsb, Hat, Hx8, Hzb, Hz1, Hz2⟩, HO, Hs⟩
  unfold stagesAt stages
  icases Hs with ⟨H1, H2, H3, H4, H5⟩
  iapply (wp_mono _ _ _ (fun _ => ?_))
  rotate_left
  · iapply (body_last m K c (grid0.coords t0_7) _ _ _ _ _ _ _ _ _ _ h1 h18 h37 h38 h39 hi (R := iprop(owns (c : Thread nD τ) (win0_0.stage (cfg0.slots t0_7 0)) fullShare (X8 m c)
      ∗ semVal (barCell c) 0 ∗ semVal (sendCell c c) 0 ∗ semVal (recvCell c c) 0)))
    rw [hi]
    isplitl [HO Hra Hxt Hz]
    · unfold recvSt
      isplitr; · iexact Hrec
      isplitl [Hra]; · iexact Hra
      isplitl [Hxt]; · iexact Hxt
      isplitl [Hz] <;> iassumption
    isplitl [H2]; · iexact H2
    isplitl [H5]; · iexact H5
    isplitl [H3]; · iexact H3
    isplitl [H4]; · iexact H4
    isplitl [Hsb]; · iexact Hsb
    isplitl [Hat]; · iexact Hat
    isplitl [Hx8]; · iexact Hx8
    isplitl [H1]; · iexact H1
    isplitl [Hzb]; · iexact Hzb
    isplitl [Hz1] <;> iassumption
  unfold phiLast backSt lastPost
  rw [doneRows_last]
  iintro ⟨⟨-, -, Hx8, Hbz, HO⟩, H5, H3, H4, H2, ⟨Hxt, Hrz⟩, H1, Hzb, Hz1, Hz2⟩
  isplitr [HO H1 H2 H3 H4 H5]
  · isplitl [Hx8]; · iexists (X8 m c); iexact Hx8
    isplitl [Hxt]; · iexists (XT m c); iexact Hxt
    isplitl [Hzb]; · iexact Hzb
    isplitl [Hbz Hz1]
    · iapply (all_zero c (fun d => semVal (sendCell c d) 0))
      isplitl [Hbz]; · iexact Hbz
      iexact Hz1
    iapply (all_zero c (fun d => semVal (recvCell c d) 0))
    isplitl [Hrz]; · iexact Hrz
    iexact Hz2
  isplitl [HO]; · iexact HO
  isplitl [H1]; · iexact H1
  isplitl [H2]; · iexact H2
  isplitl [H3]; · iexact H3
  isplitl [H4]; · iexact H4
  iexact H5

/-- A point, whichever it is. -/
theorem point_any (c : Dev nD) (t : Fin cfg0.N) (d : S256x8192.Idx → Elt F .f32) :
    iprop(phiAt m c t.val ∗ (∃ W, owes (c : Thread nD τ) (owedAt c t.val) W) ∗ stagesAt m c t ((dats m 0 c).before 4 t d))
      ⊢ wp frame (wpE (defs₀ (F := F)) 𝒱₀ (c : Thread nD τ) none) Set.univ (bodyAt0 t)
          (fun _ => iprop(phiAt m c (t.val + 1) ∗ (∃ W, owes (c : Thread nD τ) (owedAt c (t.val + 1)) W) ∗ stagesAt m c t (outA m c t.val))) := by
  have h8 : t.val < 8 := Nat.lt_of_lt_of_eq t.isLt N_0
  have ho : owedAt c (t.val + 1) = 0 := if_neg (Nat.succ_ne_zero _)
  rw [ho]
  by_cases h0 : t.val = 0
  · obtain rfl : t = t0_0 := Fin.ext h0
    rw [show phiAt m c t0_0.val = phiFirst m c from if_pos rfl, show phiAt m c (t0_0.val + 1) = phiMid m c 1 from rfl,
      show owedAt c t0_0.val = due c from if_pos rfl, show outA m c t0_0.val = outA m c 0 from rfl]
    exact point_first m c _
  have hp : phiAt m c t.val = phiMid m c t.val := by
    unfold phiAt
    rw [if_neg h0, if_neg (by omega)]
  rw [before_4 m c t h0, hp, show owedAt c t.val = 0 from if_neg h0]
  by_cases h7 : t.val = 7
  · obtain rfl : t = t0_7 := Fin.ext h7
    rw [show phiMid m c t0_7.val = phiMid m c 7 from rfl, show phiAt m c (t0_7.val + 1) = phiLast c from rfl,
      show outA m c t0_7.val = outA m c 7 from rfl, show outA m c (t0_7.val - 1) = outA m c 6 from rfl]
    exact point_last m c
  have hq : phiAt m c (t.val + 1) = phiMid m c (t.val + 1) := by
    unfold phiAt
    rw [if_neg (Nat.succ_ne_zero _), if_neg (by omega)]
  rw [hq]
  exact point_next m c t h0 h7

set_option maxRecDepth 8000 in
/-- At each point the body takes the state before it to the state after it. -/
theorem body_obligation (c : Dev nD) : BodyObligation (dats m 0 c) (defs₀ (F := F)) 𝒱₀ () Set.univ := fun t => by
  rw [bigSep_W0, bigSep_W0]
  rw [show (cfgs 0).idle (4 : Fin 5) ((cfgs 0).grid.coords t) = false from idle_4 _]
  dsimp only
  simp only [before_0, before_1, before_2, before_3, iblk_0]
  unfold Dat.owesAt Pipeline.owesWithin
  rw [show (dats m 0 c).Φ t.castSucc = phiAt m c t.val from rfl, show (dats m 0 c).Φ t.succ = phiAt m c (t.val + 1) from rfl,
    show (dats m 0 c).owed t.castSucc = owedAt c t.val from rfl, show (dats m 0 c).owed t.succ = owedAt c (t.val + 1) from rfl]
  iintro ⟨HP, ⟨%W, -, HO⟩, ⟨%d0, H0⟩, ⟨%d1, H1⟩, ⟨%d2, H2⟩, ⟨%d3, H3⟩, ⟨%d4, H4⟩⟩
  iapply (wp_mono _ _ _ (fun _ => ?_))
  rotate_left
  · iapply (point_any m c t d4)
    isplitl [HP]; · iexact HP
    isplitl [HO]; · iexists W; iexact HO
    unfold stagesAt stages
    isplitl [H0]; · iexact H0
    isplitl [H1]; · iexact H1
    isplitl [H2]; · iexact H2
    isplitl [H3]; · iexact H3
    iexact H4
  unfold stagesAt stages
  iintro ⟨HP, ⟨%W, HO⟩, H0, H1, H2, H3, H4⟩
  isplitl [HP]; · iexact HP
  isplitl [HO]
  · iexists W
    isplitr; · ipureintro; exact fun _ _ => Or.inl trivial
    iexact HO
  isplitl [H0]
  · rw [show (dats m 0 c).after 0 t = X8 m c from iblk_0 m c t]
    iexact H0
  isplitl [H1]; · iexact H1
  isplitl [H2]; · iexact H2
  isplitl [H3]; · iexact H3
  iexact H4

end Cert.KernelIdeal.Hand
-- ==== Proof.Run.lean ====
/-
# The run

The launch: the cells and their tokens made, the tokens dealt to the devices that pay them, each device's credits read
off what the others owe it; and every run's end.
-/
module

public import proofs.«01_k».proof.Proof.Dats
public import Idealize.ShloMosaic.Lib.Pipeline.CollectiveSegs

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ UU ℕ

theorem ownSemFacts : Pipeline.OwnSemFacts cfg0.spec osem := by decide

theorem share_eq (c : Dev nD) (w : Fin cfg0.W) : (dats m 0 c).share w = fullShare := by unfold Dat.share; split <;> rfl

/-! ## Cells and tokens -/

def allCells : Finset (GSem nD τ sig) := Finset.univ.map ⟨kcell, kcell_inj⟩

/-- The tokens of device `c`'s own cells: one of its barrier cell, one of a send cell and one of a receive cell for each
    device. -/
abbrev T3 : Type := Dev nD ⊕ K2
abbrev tokOf (p : Dev nD × T3) : GSem nD τ sig × ℕ × Dev nD := match p.2 with
  | .inl d => (barCell p.1, 0, d)
  | .inr (.inl d) => (sendCell p.1 d, 0, d)
  | .inr (.inr s) => (recvCell p.1 s, 0, s)

/-- The cell and the device a token names. -/
def tokJ : T3 → J × Dev nD
  | .inl d => (.inl (), d)
  | .inr (.inl d) => (.inr (.inl d), d)
  | .inr (.inr s) => (.inr (.inr s), s)
theorem tokJ_inj : Function.Injective tokJ :=
  Function.LeftInverse.injective (g := fun x : J × Dev nD => match x.1 with | .inl _ => .inl x.2 | .inr k => .inr k)
    (by rintro (a | a | a) <;> rfl)
theorem tokOf_eq (p : Dev nD × T3) : tokOf p = (kcell (p.1, (tokJ p.2).1), 0, (tokJ p.2).2) := by
  obtain ⟨c, a | a | a⟩ := p <;> rfl
theorem tokOf_inj : Function.Injective tokOf := fun p q h => by
  rw [tokOf_eq, tokOf_eq] at h
  have h1 := kcell_inj (congrArg Prod.fst h)
  have h2 : (tokJ p.2).2 = (tokJ q.2).2 := congrArg (fun x => x.2.2) h
  exact Prod.ext (congrArg (fun x => x.1) h1) (tokJ_inj (Prod.ext (congrArg (fun x => x.2) h1) h2))
def allToks : Finset (GSem nD τ sig × ℕ × Dev nD) := Finset.univ.map ⟨tokOf, tokOf_inj⟩

def u₀ : UU := (initOf (Pipeline.cells cfgs cellOf_inj) (Pipeline.launchToks cfgs cellOf_inj), initOf allCells allToks)

def toks (c : Dev nD) : sProp 𝕄 :=
  iprop(bigSep Finset.univ (fun d => dutyTok ER (barCell c) 0 d) ∗ bigSep Finset.univ (fun d => dutyTok ER (sendCell c d) 0 d)
    ∗ bigSep Finset.univ (fun d => dutyTok ER (recvCell c d) 0 d))

/-- The tokens of the payments device `c` makes. -/
def payToks (c : Dev nD) : sProp 𝕄 :=
  iprop(bigSep Finset.univ (fun d => dutyTok ER (barCell d) 0 c) ∗ bigSep Finset.univ (fun d => dutyTok ER (sendCell c d) 0 d)
    ∗ bigSep Finset.univ (fun d => dutyTok ER (recvCell d c) 0 c))

def G (c : Dev nD) : sProp 𝕄 :=
  iprop((bigSep Finset.univ fun j : J => roundState ER (xRd m) (kcell (c, j)) 0)
    ∗ (bigSep Finset.univ fun j : J => atPos ER (kcell (c, j)) 0 ∅ 0) ∗ (bigSep Finset.univ fun j : J => reached ER (kcell (c, j)) 0) ∗ toks c)

def G' (c : Dev nD) : sProp 𝕄 := iprop(∃ K, records m K ∗ (bigSep Finset.univ fun j : J => atPos ER (kcell (c, j)) 0 ∅ 0) ∗ payToks c)

omit [FloatOps F] in
/-- A device's cells: its barrier cell, its send cells, its receive cells. -/
theorem bigSep_J (Φ : J → sProp 𝕄) : bigSep Finset.univ Φ
    = iprop(Φ (.inl ()) ∗ bigSep Finset.univ (fun d => Φ (.inr (.inl d))) ∗ bigSep Finset.univ (fun s => Φ (.inr (.inr s)))) := by
  rw [bigSep_univ_sum, bigSep_univ_sum]
  rw [show bigSep Finset.univ (fun a : Unit => Φ (.inl a)) = Φ (.inl ()) from bigSep_univ_eq_bigSepL [()] (by decide) (by decide) _]
  rfl

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun j : J => Φ (kcell (c, j)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum, bigSep_univ_sum]; rfl
  iintro HX
  imod (Rounds.fund ER (xRd m) allCells allToks) $$ HX with ⟨Hst, Hr, Hat, Htok⟩
  imodintro
  ihave Hst' := (Entails.of_eq (hX fun g => roundState ER (xRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr'] <;> iassumption

omit [FloatOps F] in
theorem ownSems0_eq (c : Dev nD) : (Pipeline.ownSems0 (Ix := Unit) (Name := ℕ) (U := UU) (Lvl := ℕ) (Val := Elt F) (τ := τ) osem c : sProp 𝕄)
    = iprop(bigSep Finset.univ (fun d => semVal (sendCell c d) 0) ∗ bigSep Finset.univ (fun d => semVal (recvCell c d) 0)) := by
  unfold Pipeline.ownSems0; rw [bigSep_univ_sum]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j => iprop(∃ κ : ℕ, cellInv ER (xRd m) κ (kcell (c, j)) ∗ reached ER (kcell (c, j)) 0))
          ∗ (bigSep Finset.univ fun j : J => atPos ER (kcell (c, j)) 0 ∅ 0) ∗ toks c) := by
  rw [ownSems0_eq, unscopedSems0_eq]
  unfold G
  iintro ⟨⟨Hs, Hv⟩, Hb, Hst, Hat, Hr, Htok⟩
  imod (show iprop((semVal (barCell c) 0 ∗ bigSep Finset.univ (fun d => semVal (sendCell c d) 0) ∗ bigSep Finset.univ (fun d => semVal (recvCell c d) 0))
        ∗ (bigSep Finset.univ fun j : J => roundState ER (xRd m) (kcell (c, j)) 0) ∗ bigSep Finset.univ fun j : J => reached ER (kcell (c, j)) 0)
      ⊢ (|={Set.univ}=> bigSep Finset.univ fun j => iprop(∃ κ : ℕ, cellInv ER (xRd m) κ (kcell (c, j)) ∗ reached ER (kcell (c, j)) 0) : sProp 𝕄) from by
        rw [← bigSep_J (fun j => semVal (kcell (c, j)) 0), ← bigSep_sep', ← bigSep_sep']
        refine (bigSep_mono fun j _ => ?_).trans (bigSep_fupd _ _)
        show iprop(semVal (kcell (c, j)) 0 ∗ roundState ER (xRd m) (kcell (c, j)) 0 ∗ reached ER (kcell (c, j)) 0) ⊢ iprop(|={Set.univ}=> ∃ κ : ℕ, cellInv ER (xRd m) κ (kcell (c, j)) ∗ reached ER (kcell (c, j)) 0)
        iintro ⟨Hv, Hst, Hr⟩
        imod ((Rounds.body_intro ER (xRd m) (kcell (c, j))).trans inv_alloc) $$ [Hv Hst] with ⟨%κ, Hinv⟩
        · isplitl [Hv] <;> iassumption
        imodintro
        iexists κ
        isplitl [Hinv] <;> iassumption) $$ [Hs Hv Hb Hst Hr] with Hinv
  · isplitl [Hs Hv Hb]
    · isplitl [Hb]; · iexact Hb
      isplitl [Hs] <;> iassumption
    isplitl [Hst] <;> iassumption
  imodintro
  isplitl [Hinv]; · iexact Hinv
  isplitl [Hat] <;> iassumption

omit [FloatOps F] in
/-- The tokens dealt to the devices that pay: a barrier's and a receive cell's to the device named, a send cell's stay. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', Pipeline.bigSep_univ_comm (fun c d : Dev nD => (dutyTok ER (barCell c) 0 d : sProp 𝕄)),
    Pipeline.bigSep_univ_comm (fun c d : Dev nD => (dutyTok ER (recvCell c d) 0 d : sProp 𝕄))]

theorem gather (K : Dev nD × J → ℕ) :
    iprop((bigSep Finset.univ fun _ : Dev nD => records m K) ∗ (bigSep Finset.univ fun c : Dev nD => bigSep Finset.univ fun j : J => (atPos ER (kcell (c, j)) 0 ∅ 0 : sProp 𝕄))
      ∗ bigSep Finset.univ fun c : Dev nD => payToks c) ⊢ bigSep Finset.univ (G' m) := by
  rw [← bigSep_sep', ← bigSep_sep']
  refine bigSep_mono fun c _ => ?_
  show iprop(records m K ∗ (bigSep Finset.univ fun j : J => atPos ER (kcell (c, j)) 0 ∅ 0) ∗ payToks c) ⊢ G' m c
  unfold G'
  iintro H
  iexists K
  iexact H

theorem regroup :
    (bigSep Finset.univ fun c : Dev nD => iprop((bigSep Finset.univ fun j => iprop(∃ κ : ℕ, cellInv ER (xRd m) κ (kcell (c, j)) ∗ reached ER (kcell (c, j)) 0))
          ∗ (bigSep Finset.univ fun j : J => atPos ER (kcell (c, j)) 0 ∅ 0) ∗ toks c) : sProp 𝕄)
      ⊢ bigSep Finset.univ (G' m) := by
  rw [bigSep_sep', bigSep_sep', ← bigSep_univ_prod (fun p : Dev nD × J => iprop(∃ κ : ℕ, cellInv ER (xRd m) κ (kcell p) ∗ reached ER (kcell p) 0))]
  iintro ⟨HI, Hat, Htok⟩
  ihave HK := (BI.bigSep_exists_pi Finset.univ (fun (p : Dev nD × J) (κ : ℕ) => (iprop(cellInv ER (xRd m) κ (kcell p) ∗ reached ER (kcell p) 0) : sProp 𝕄))) $$ HI
  icases HK with ⟨%K, HI⟩
  ihave Htk := (toks_around (F := F)) $$ Htok
  ihave HR := (Entails.of_eq (show _ = records m K from by unfold records; rfl)) $$ HI
  ihave HRs := (BI.bigSep_of_persistent (Finset.univ : Finset (Dev nD)) (records m K)) $$ HR
  iapply (gather m K)
  isplitl [HRs]; · iexact HRs
  isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

theorem bar_eq_iff {a b : Dev nD} : barCell a = barCell b ↔ a = b :=
  ⟨fun h => congrArg (fun p : Dev nD × J => p.1) (kcell_inj (show kcell (a, .inl ()) = kcell (b, .inl ()) from h)), fun h => h ▸ rfl⟩
theorem recv_eq_iff {a b s t : Dev nD} : recvCell a s = recvCell b t ↔ a = b ∧ s = t :=
  ⟨fun h => by
    have := kcell_inj (show kcell (a, .inr (.inr s)) = kcell (b, .inr (.inr t)) from h)
    exact ⟨congrArg Prod.fst this, Sum.inr.inj (Sum.inr.inj (congrArg Prod.snd this))⟩, fun h => by rw [h.1, h.2]⟩
theorem recv_ne_bar (a s b : Dev nD) : recvCell a s ≠ barCell b := fun h => by
  have h' := kcell_inj (show kcell (a, .inr (.inr s)) = kcell (b, .inl ()) from h)
  exact absurd (congrArg Prod.snd h') (by simp)

/-- What device `d` owes device `c`'s barrier cell: a signal, if it is another; -/
theorem owed_bar (d c : Dev nD) : due d (barCell c) () = if c ∈ rem d 0 then 1 else 0 := by
  unfold due barDue recvDue
  rw [Pi.add_apply, Finsupp.add_apply, Finset.sum_apply, Finset.sum_apply, Finsupp.finset_sum_apply, Finsupp.finset_sum_apply,
    Finset.sum_eq_zero (s := rem d 0) (f := fun e => (tallyAt (recvCell e d) () N : CellTallies nD τ sig Unit) (barCell c) ()) fun e _ => by
      rw [tallyAt_apply, if_neg fun h => recv_ne_bar e d c h.1.symm], Nat.add_zero,
    Finset.sum_congr rfl fun e (_ : e ∈ rem d 0) => show (tallyAt (barCell e) () 1 : CellTallies nD τ sig Unit) (barCell c) () = if c = e then 1 else 0 from by
      rw [tallyAt_apply]
      by_cases h : c = e
      · subst h; rw [if_pos ⟨rfl, rfl⟩, if_pos rfl]
      · rw [if_neg fun h' => h (bar_eq_iff.mp h'.1), if_neg h]]
  exact Finset.sum_ite_eq _ _ _

/-- and its receive cell for `s`: a block's bytes, if it is `s` and another. -/
theorem owed_recv (d c s : Dev nD) : due d (recvCell c s) () = if d = s then (if c ∈ rem d 0 then N else 0) else 0 := by
  unfold due barDue recvDue
  rw [Pi.add_apply, Finsupp.add_apply, Finset.sum_apply, Finset.sum_apply, Finsupp.finset_sum_apply, Finsupp.finset_sum_apply,
    Finset.sum_eq_zero (s := rem d 0) (f := fun e => (tallyAt (barCell e) () 1 : CellTallies nD τ sig Unit) (recvCell c s) ()) fun e _ => by
      rw [tallyAt_apply, if_neg fun h => recv_ne_bar c s e h.1], Nat.zero_add,
    Finset.sum_congr rfl fun e (_ : e ∈ rem d 0) => show (tallyAt (recvCell e d) () N : CellTallies nD τ sig Unit) (recvCell c s) () = if c = e then (if d = s then N else 0) else 0 from by
      rw [tallyAt_apply]
      by_cases h : c = e
      · subst h
        rw [if_pos rfl]
        by_cases h' : d = s
        · subst h'; rw [if_pos ⟨rfl, rfl⟩, if_pos rfl]
        · rw [if_neg fun h'' => h' (recv_eq_iff.mp h''.1).2.symm, if_neg h']
      · rw [if_neg fun h' => h (recv_eq_iff.mp h'.1).1, if_neg h]]
  rw [Finset.sum_ite_eq]
  by_cases h : d = s <;> by_cases h' : c ∈ rem d 0 <;> simp [h, h']

theorem card_others (c : Dev nD) : (∑ d : Dev nD, if c ∈ rem d 0 then 1 else 0) = 15 := by revert c; decide

theorem launch_bar (c : Dev nD) :
    tallyOn (barCell c) (launchCredit (Pipeline.owing due) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c, card_others]

theorem launch_recv (c s : Dev nD) (h : s ∈ rem c 0) :
    tallyOn (recvCell c s) (launchCredit (Pipeline.owing due) 0 (recvCell c s)) = (tallyAt (recvCell c s) () N : CellTallies nD τ sig Unit) := by
  have h' : c ∈ rem s 0 := by revert h; revert s; revert c; decide
  unfold tallyAt; refine congrArg _ (Finsupp.ext fun u => ?_); cases u
  rw [Pipeline.launchCredit_owing, Finsupp.single_eq_same, Finset.sum_congr rfl fun d _ => owed_recv d c s, Finset.sum_ite_eq', if_pos (Finset.mem_univ _), if_pos h']

omit [FloatOps F] in
theorem creds (c : Dev nD) :
    (Pipeline.launchCred due c : sProp 𝕄) ⊢ iprop(cred (tallyAt (barCell c) () 15) ∗ bigSep (rem c 0) fun d => cred (tallyAt (recvCell c d) () N)) := by
  unfold Pipeline.launchCred
  rw [bigSep_univ_at _ (SemLoc.reg barS), launch_bar]
  refine sep_mono_right ?_
  have hs : (rem c 0).map ⟨fun d => csem (.inr (.inr d)), fun a b h => Sum.inr.inj (Sum.inr.inj (csem_inj h))⟩ ⊆ Finset.univ.erase (SemLoc.reg barS) := by
    intro x hx
    obtain ⟨d, -, rfl⟩ := Finset.mem_map.mp hx
    exact Finset.mem_erase.mpr ⟨fun h => recv_ne_bar c d c (Prod.ext rfl h), Finset.mem_univ _⟩
  refine BIBase.Entails.trans (bigSep_subset hs) ?_
  rw [bigSep_map]
  refine bigSep_mono fun d hd => ?_
  show cred (tallyOn (recvCell c d) (launchCredit (Pipeline.owing due) 0 (recvCell c d))) ⊢ cred (tallyAt (recvCell c d) () N)
  rw [launch_recv c d hd]

/-! ## The side conditions of the launch -/

omit [FloatOps F] in
/-- Tokens of every device, narrowed to the others. -/
theorem others (c : Dev nD) (Φ : Dev nD → sProp 𝕄) : bigSep Finset.univ Φ ⊢ bigSep (rem c 0) Φ := bigSep_subset (Finset.subset_univ _)

omit [FloatOps F] in
theorem split_own (c : Dev nD) (Φ : Dev nD → sProp 𝕄) : bigSep Finset.univ Φ ⊢ iprop(Φ c ∗ bigSep (rem c 0) Φ) := by
  rw [rem_zero, bigSep_univ_at Φ c]

/-- A cell nobody pays is closed at once: its counter comes back. -/
theorem close_own (K : Dev nD × J → ℕ) (c : Dev nD) (k : K2) (h : dutyOf c (.inr k) = ∅) :
    iprop(records m K ∗ atPos ER (kcell (c, .inr k)) 0 ∅ 0) ⊢ (|={Set.univ}=> semVal (kcell (c, .inr k)) 0 : sProp 𝕄) := by
  iintro ⟨#Hrec, Hat⟩
  ihave Hc := (records_at m K (c, .inr k)) $$ Hrec
  icases Hc with ⟨#Hinv, -⟩
  iapply (Rounds.cell_close ER (xRd m) (Set.mem_univ (K (c, .inr k))) (fun h => h) (R := 0) (fun r _ => by
    rcases Nat.eq_zero_or_pos r with rfl | hr
    · rw [duties_at, h]
    · exact duties_later m _ r hr))
  isplitr; · iexact Hinv
  iexact Hat

theorem start_intro (c : Dev nD) :
    iprop(Pipeline.unscopedRestP Pipeline.Prefetch.none cfg0.spec c (fun b => m ((c : Thread nD τ).loc b)) ∗ levAts L lv
        ∗ Pipeline.launchCred due c ∗ prngReg c (ρ c) ∗ G' m c)
      ⊢ |={Set.univ}=> iprop(start m c ∗ emp) := by
  unfold G' payToks
  rw [bigSep_congr (s := Finset.univ) (fun (j : J) _ => rfl), bigSep_J]
  iintro ⟨-, Hlev, Hcr, -, ⟨%K, #Hrec, ⟨Hb, Hs, Hr⟩, Tb, Ts, Tr⟩⟩
  ihave Hc := (creds (F := F) c) $$ Hcr
  icases Hc with ⟨Hcb, Hcr⟩
  ihave Hs' := (split_own c (fun d => atPos ER (sendCell c d) 0 ∅ 0)) $$ [Hs]
  · iexact Hs
  icases Hs' with ⟨Hs0, Hs⟩
  ihave Hr' := (split_own c (fun d => atPos ER (recvCell c d) 0 ∅ 0)) $$ [Hr]
  · iexact Hr
  icases Hr' with ⟨Hr0, Hr⟩
  imod (close_own m K c (.inl c) (if_pos rfl)) $$ [Hs0] with Hz1
  · isplitr; · iexact Hrec
    iexact Hs0
  imod (close_own m K c (.inr c) (if_pos rfl)) $$ [Hr0] with Hz2
  · isplitr; · iexact Hrec
    iexact Hr0
  ihave Tb' := (others c (fun d => dutyTok ER (barCell d) 0 c)) $$ Tb
  ihave Ts' := (others c (fun d => dutyTok ER (sendCell c d) 0 d)) $$ Ts
  ihave Tr' := (others c (fun d => dutyTok ER (recvCell d c) 0 c)) $$ Tr
  imodintro
  isplitl
  · unfold start
    iexists K
    isplitr; · iexact Hrec
    isplitl [Tb']; · iexact Tb'
    isplitl [Hcb Hb Hlev]
    · unfold barA
      isplitl [Hcb]; · iexact Hcb
      isplitl [Hb] <;> iassumption
    isplitl [Ts' Tr']
    · unfold sendTok
      rw [bigSep_sep']
      isplitl [Ts'] <;> iassumption
    isplitl [Hcr Hr]
    · unfold recvA
      rw [bigSep_sep']
      isplitl [Hcr] <;> iassumption
    isplitl [Hs]; · iexact Hs
    isplitl [Hz1]; · iexact Hz1
    iexact Hz2
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = phiFirst m c from rfl, scopedRest0_eq]
  unfold phiFirst
  iintro ⟨Hs, -, ⟨%f, Hf⟩, ⟨%g, Hg⟩⟩
  isplitl [Hs]; · iexact Hs
  isplitl [Hf]
  · iexists f; unfold x8At; iexact Hf
  iexists g; unfold xtAt; iexact Hg

theorem phi_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = phiLast c from rfl, scopedRest0_eq, ownSems0_eq, unscopedSems0_eq]
  unfold phiLast x8At xtAt
  iintro ⟨⟨%f, Hf⟩, ⟨%g, Hg⟩, Hb, Hs, Hr⟩
  isplitl [Hb]; · iexact Hb
  isplitl [Hs Hr]
  · isplitl [Hs] <;> iassumption
  isplitl [Hf]
  · iexists f; iexact Hf
  iexists g; iexact Hg

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      show owedAt c t.val = due c ∨ owedAt c t.val = 0
      unfold owedAt
      split
      · exact Or.inl rfl
      · exact Or.inr rfl)

/-! ## The run -/

def finalA (c : Dev nD) (w : Fin cfg0.W) : Buf (Elt F) ((cfg0.win w).arr.view.loc (c : Thread nD τ)) := (dats m 0 c).arrAt w cfg0.N

/-- Every window's array holds what the proof data says. -/
def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- Every weakly fair run on the sixteen devices ends, its arrays at the contents computed, every counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := due) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments after the run hold what they held. -/
theorem final_arg0 (c : Dev nD) : finalA m c (0 : Fin 5) = m ((c : Thread nD τ).loc main_arg0) := (dats m 0 c).arrAt_in (0 : Fin 5) rfl _
theorem final_arg1 (c : Dev nD) : finalA m c (1 : Fin 5) = m ((c : Thread nD τ).loc main_arg1) := (dats m 0 c).arrAt_in (1 : Fin 5) rfl _
theorem final_arg2 (c : Dev nD) : finalA m c (2 : Fin 5) = m ((c : Thread nD τ).loc main_arg2) := (dats m 0 c).arrAt_in (2 : Fin 5) rfl _
theorem final_arg3 (c : Dev nD) : finalA m c (3 : Fin 5) = m ((c : Thread nD τ).loc main_arg3) := (dats m 0 c).arrAt_in (3 : Fin 5) rfl _

/-- The arguments are unchanged and every counter is zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨(h.1 c 0).trans (final_arg0 m c), (h.1 c 1).trans (final_arg1 m c),
    (h.1 c 2).trans (final_arg2 m c), (h.1 c 3).trans (final_arg3 m c)⟩, h.2⟩) (run_main m ρ)

end Cert.KernelIdeal.Hand
-- ==== Proof.Value.lean ====
/- The kernel's result at the ideal instance, element by element: device `c`'s row `r` of the result is the row
   `256 c + r` of the whole first argument times the columns of the second, times the product of the two scales. The
   sum over the eight points is one sum over the `4096` contracted positions. -/
module

public import proofs.«01_k».proof.Proof.Run
public import Idealize.ShloMosaic.Lib.Pipeline.ValueKit
public import Idealize.ShloMosaic.Lib.MatmulPlain

@[expose] public section

noncomputable section

namespace Cert.KernelIdeal.Hand

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ)

/-! ## The blocks a point multiplies -/

/-- The offset of a point's columns of `xt`. -/
theorem off39 : ∀ t : Fin cfg0.N, k0_off39 (grid0.coords t) = ![0, 512 * t.val] :=
  (by decide +kernel : ∀ t : Fin grid0.N, _)

theorem widx : ∀ t : Fin cfg0.N, win0_1.index t = ![t.val, 0] ∧ win0_2.index t = ![0] ∧ win0_3.index t = ![0] :=
  (by decide +kernel : ∀ t : Fin grid0.N, _)

theorem lt8 (t : Fin cfg0.N) : t.val < 8 := Nat.lt_of_lt_of_eq t.isLt N_0

/-- A contracted position: column `k` of point `t`. -/
def col (t : Fin cfg0.N) (k : Fin 512) : Fin 4096 := ⟨512 * t.val + k.val, by have := lt8 t; omega⟩

theorem xb_apply (c : Dev nD) (t : Fin cfg0.N) (r : Fin 256) (k : Fin 512) :
    XB m c (grid0.coords t) (ValueIdx.ix2 r k) = XT m c (ValueIdx.ix2 r (col t k)) := by
  refine congrArg (XT m c) (funext fun a => ?_)
  have h := off39 t
  match a with
  | ⟨0, _⟩ =>
    apply Fin.ext
    show k0_off39 (grid0.coords t) 0 + 1 * r.val = r.val
    rw [h]; show 0 + 1 * r.val = r.val; omega
  | ⟨1, _⟩ =>
    apply Fin.ext
    show k0_off39 (grid0.coords t) 1 + 1 * k.val = 512 * t.val + k.val
    rw [h]; show 512 * t.val + 1 * k.val = _; omega

theorem iblk1 (c : Dev nD) (t : Fin cfg0.N) (k : Fin 512) (n : Fin 8192) :
    iblk m c 1 t (ValueIdx.ix2 k n) = m ((c : Thread nD τ).loc main_arg1) (ValueIdx.ix2 (col t k) n) := by
  show m ((c : Thread nD τ).loc main_arg1) _ = _
  refine congrArg (m ((c : Thread nD τ).loc main_arg1)) (funext fun a => ?_)
  have h := (widx t).1
  match a with
  | ⟨0, _⟩ =>
    apply Fin.ext
    show win0_1.index t 0 * 512 + 1 * k.val = 512 * t.val + k.val
    rw [h]; show t.val * 512 + 1 * k.val = _; omega
  | ⟨1, _⟩ =>
    apply Fin.ext
    show win0_1.index t 1 * 8192 + 1 * n.val = n.val
    rw [h]; show 0 * 8192 + 1 * n.val = _; omega

theorem iblk2 (c : Dev nD) (t : Fin cfg0.N) : iblk m c 2 t = m ((c : Thread nD τ).loc main_arg2) := by blk_ext! [iblk, V, widx t]
theorem iblk3 (c : Dev nD) (t : Fin cfg0.N) : iblk m c 3 t = m ((c : Thread nD τ).loc main_arg3) := by blk_ext! [iblk, V, widx t]

/-! ## The sum -/

/-- One contracted position's product, on device `c`. -/
def prodAt (c : Dev nD) (r : Fin 256) (n : Fin 8192) (K : Fin 4096) : EReal :=
  (XT m c (ValueIdx.ix2 r K) : EReal) * (m ((c : Thread nD τ).loc main_arg1) (ValueIdx.ix2 K n) : EReal)

/-- The same, at any number. -/
def prodN (c : Dev nD) (r : Fin 256) (n : Fin 8192) (j : ℕ) : EReal := if h : j < 4096 then prodAt m c r n ⟨j, h⟩ else 0

/-- One point's product. -/
theorem pay4_apply (c : Dev nD) (r : Fin 256) (n : Fin 8192) (t : Fin cfg0.N) :
    k0_pay4 (F := Ideal) (iblk m c 1 t) (XB m c (grid0.coords t)) (ValueIdx.ix2 r n)
      = ∑ k ∈ Finset.range 512, prodN m c r n (512 * t.val + k) := by
  have h := Ideal.matmul_plain_apply (M := 256) (K := 512) (N := 8192) (φ₁ := .fp8e4m3) (φ₂ := .fp8e4m3) none
    (XB m c (grid0.coords t)) (iblk m c 1 t) (constant S256x8192 .f32 0x00000000#32) r n
  have hz : (constant (F := Ideal) S256x8192 .f32 0x00000000#32) (ValueIdx.ix2 r n) = (0 : EReal) := Ideal.ofBits_zero_f32
  rw [hz, zero_add] at h
  unfold k0_pay4
  rw [shapeCast_self]
  refine h.trans ?_
  rw [Finset.sum_range]
  refine Finset.sum_congr rfl fun k _ => ?_
  rw [xb_apply, iblk1]
  have := lt8 t
  exact (show prodN m c r n (512 * t.val + k.val) = prodAt m c r n (col t k) from dif_pos (by omega)).symm

/-- The sum of the products up to a point is one sum over the positions so far. -/
theorem acc_apply (c : Dev nD) (r : Fin 256) (n : Fin 8192) : ∀ j : ℕ, j < 8 →
    accA m c j (ValueIdx.ix2 r n) = ∑ k ∈ Finset.range (512 * (j + 1)), prodN m c r n k
  | 0, _ => by
    refine (pay4_apply m c r n (pt 0)).trans ?_
    exact Finset.sum_congr rfl fun k _ => congrArg (prodN m c r n) (by show 512 * 0 + k = k; omega)
  | j + 1, hj => by
    have ih := acc_apply c r n j (by omega)
    have hp : (pt (j + 1)).val = j + 1 := Nat.mod_eq_of_lt hj
    show k0_pay5 (F := Ideal) (iblk m c 1 (pt (j + 1))) (XB m c (grid0.coords (pt (j + 1)))) (accA m c j) (ValueIdx.ix2 r n) = _
    unfold k0_pay5
    rw [shapeCast_self]
    refine (congrArg₂ (fun a b : EReal => a + b) ih (pay4_apply m c r n (pt (j + 1)))).trans ?_
    rw [hp, show 512 * (j + 1 + 1) = 512 * (j + 1) + 512 by omega, Finset.sum_range_add]

/-- The product of the two scales, on device `c`. -/
def scaleAt (c : Dev nD) : EReal :=
  Scalar.mulf (F := Ideal) (φ := .f32) (m ((c : Thread nD τ).loc main_arg2) i1) (m ((c : Thread nD τ).loc main_arg3) i1)

/-- The last point's result. -/
theorem out_apply (c : Dev nD) (r : Fin 256) (n : Fin 8192) : outA m c 7 (ValueIdx.ix2 r n)
    = (∑ K : Fin 4096, prodAt m c r n K) * scaleAt m c := by
  have h := acc_apply m c r n 7 (by decide)
  have e : outA m c 7 = k0_pay3 (accA m c 7) (iblk m c 2 (pt 7) i1) (iblk m c 3 (pt 7) i1) := if_pos rfl
  rw [e, iblk2, iblk3]
  unfold k0_pay3
  rw [shapeCast_self]
  refine congrArg (fun a : EReal => a * scaleAt m c) (h.trans ?_)
  rw [show 512 * (7 + 1) = 4096 by rfl, Finset.sum_range]
  exact Finset.sum_congr rfl fun K _ => dif_pos K.isLt

/-- The result array after the run: what the last point leaves. -/
theorem final_out (c : Dev nD) : finalA m c (4 : Fin 5) = outA m c 7 := by
  refine (dats m 0 c).arrAt_eq_of_after_last 4 t0_7 (by decide +kernel) _ fun j => ?_
  rfl

/-! ## The rows of the whole first argument -/

/-- When every device holds its columns of `x`, `xt` ends with rows of `x`. -/
theorem XT_rows (x : (⟨2, ![4096, 4096]⟩ : Shape).Idx → EReal) (c : Dev nD)
    (hx : ∀ s : Dev nD, ∀ (a : Fin 4096) (b : Fin 256), X8 m s (ValueIdx.ix2 a b) = x (ValueIdx.ix2 a ⟨256 * s.val + b.val, by have : s.val < 16 := s.isLt; omega⟩))
    (r : Fin 256) (K : Fin 4096) :
    XT m c (ValueIdx.ix2 r K) = x (ValueIdx.ix2 (⟨256 * c.val + r.val, by have : c.val < 16 := c.isLt; omega⟩ : Fin 4096) K) := by
  have hs : K.val / 256 < 16 := by omega
  rw [XT_at m c ⟨K.val / 256, hs⟩ (ValueIdx.ix2 r K)
    (ValueIdx.ix2 (⟨256 * c.val + r.val, by have : c.val < 16 := c.isLt; omega⟩ : Fin 4096) (⟨K.val % 256, by omega⟩ : Fin 256)) rfl rfl rfl, hx]
  refine congrArg (fun q => x (ValueIdx.ix2 _ q)) (Fin.ext ?_)
  show 256 * (K.val / 256) + K.val % 256 = K.val
  omega

end Cert.KernelIdeal.Hand

end
-- ==== Proof.RefValue.lean ====
/- The reference's result at the ideal instance, element by element: the row of the first argument times the column of
   the second, times the product of the two scales. -/
module

public import proofs.«01_k».proof.Proof.Gen.ReferenceIdeal.Frame
public import Idealize.ShloMosaic.Lib.Pipeline.ValueKit
public import Idealize.ShloMosaic.Lib.MatmulPlain

@[expose] public section

noncomputable section

namespace Cert.ReferenceIdeal.Hand

open Idealize.ShloMosaic Idealize.ShloMosaic.TcCoe Idealize.SL.Sem Cert.ReferenceIdeal Cert.ReferenceIdeal.Gen
open Idealize.ShloMosaic.Pipeline (Dat)

/-- A scale's one index. -/
def o1 : S1.Idx := fun a => ⟨0, by fin_cases a; decide⟩

/-- A row of the first argument times a column of the second, times the two scales. -/
def entry (x : S4096x4096.Idx → EReal) (w : S4096x8192.Idx → EReal) (sx sw : S1.Idx → EReal) (r : Fin 4096) (n : Fin 8192) : EReal :=
  (∑ k : Fin 4096, x (ValueIdx.ix2 r k) * w (ValueIdx.ix2 k n)) * (sx o1 * sw o1)

/-- The whole result. -/
def whole (x : S4096x4096.Idx → EReal) (w : S4096x8192.Idx → EReal) (sx sw : S1.Idx → EReal) : S4096x8192.Idx → EReal :=
  fun j => entry x w sx sw (j 0) (j 1)

/-- What the body stores is the whole result. -/
theorem pay_eq (x : Vec Ideal S4096x4096 .fp8e4m3) (w : Vec Ideal S4096x8192 .fp8e4m3) (sx sw : Vec Ideal S1 .f32) :
    k0_pay1 (F := Ideal) x w (sx o1) (sw o1) = whole x w sx sw := by
  funext j
  obtain ⟨r, n, rfl⟩ : ∃ (r : Fin 4096) (n : Fin 8192), j = ValueIdx.ix2 r n := ⟨j 0, j 1, by funext a; fin_cases a <;> rfl⟩
  have h := Ideal.matmul_plain_apply (M := 4096) (K := 4096) (N := 8192) (φ₁ := .f32) (φ₂ := .f32) none x w
    (constant S4096x8192 .f32 0x00000000#32) r n
  have hz : (constant (F := Ideal) S4096x8192 .f32 0x00000000#32) (ValueIdx.ix2 r n) = (0 : EReal) := Ideal.ofBits_zero_f32
  rw [hz, zero_add] at h
  unfold k0_pay1
  exact congrArg (· * (sx o1 * sw o1 : EReal)) h

variable (m : (ℓ : Loc nD τ sig) → Buf (Elt Ideal) ℓ) (ρ : Dev nD → PrngReg)

theorem idx : ∀ t : Fin cfg0.N, win0_0.index t = ![0, 0] ∧ win0_1.index t = ![0, 0] ∧ win0_2.index t = ![0] ∧ win0_3.index t = ![0] :=
  (by decide +kernel : ∀ t : Fin grid0.N, _)

theorem iblk0 (c : Dev nD) : iblk m c 0 t0_0 = m ((c : Thread nD τ).loc main_arg0) := by blk_ext! [iblk, V, idx t0_0]
theorem iblk1 (c : Dev nD) : iblk m c 1 t0_0 = m ((c : Thread nD τ).loc main_arg1) := by blk_ext! [iblk, V, idx t0_0]
theorem iblk2 (c : Dev nD) : iblk m c 2 t0_0 = m ((c : Thread nD τ).loc main_arg2) := by blk_ext! [iblk, V, idx t0_0]
theorem iblk3 (c : Dev nD) : iblk m c 3 t0_0 = m ((c : Thread nD τ).loc main_arg3) := by blk_ext! [iblk, V, idx t0_0]

/-- The result array after the run. -/
theorem final (c : Dev nD) : (dats m 0 c).arrAt 4 cfg0.N
    = whole (m ((c : Thread nD τ).loc main_arg0)) (m ((c : Thread nD τ).loc main_arg1)) (m ((c : Thread nD τ).loc main_arg2))
        (m ((c : Thread nD τ).loc main_arg3)) := by
  refine (dats m 0 c).arrAt_eq_of_after_last 4 t0_0 (by decide +kernel) _ fun j => ?_
  blk_simp
  rw [after0_4]
  unfold outsAt0
  frame_out
  rw [iblk0, iblk1, iblk2, iblk3]
  refine congrFun (Eq.trans (congr (congr (congrArg₂ k0_pay1 ((hs0_0 t0_0).read_unread _) ((hs0_1 t0_0).read_unread _))
    (congrFun ((hs0_2 t0_0).read_unread _) o1)) (congrFun ((hs0_3 t0_0).read_unread _) o1)) (pay_eq _ _ _ _)) j

end Cert.ReferenceIdeal.Hand

end
-- ==== Proof.Equation.lean ====
/- The two results agree at the ideal instance: each device's result is its rows of the reference's. -/
module

public import proofs.«01_k».proof.Defs
public import proofs.«01_k».proof.Proof.Value
public import proofs.«01_k».proof.Proof.RefValue

@[expose] public section

noncomputable section

namespace Cert.Proof

open Idealize.ShloMosaic Idealize.ShloMosaic.TcCoe Idealize.SL.Sem

/-- The kernel's run, read: the result at what the last point leaves, the arguments unchanged. -/
theorem kernel_run (m : (ℓ : Loc KernelIdeal.nD KernelIdeal.τ KernelIdeal.sig) → Buf (Elt Ideal) ℓ) (g : Dev KernelIdeal.nD → PrngReg) :
    θ_run (KernelIdeal.defs (F := Ideal)) (onTc (τ := KernelIdeal.τ) (KernelIdeal.main (F := Ideal))) ⟨m, fun _ => 0, g⟩
      (fun r => ∀ c : Dev KernelIdeal.nD,
        r.2.mem ((c.tc : Thread KernelIdeal.nD KernelIdeal.τ).loc KernelIdeal.main_v1) = KernelIdeal.Hand.outA m c 7
        ∧ r.2.mem ((c.tc : Thread KernelIdeal.nD KernelIdeal.τ).loc KernelIdeal.main_arg0) = m ((c.tc : Thread KernelIdeal.nD KernelIdeal.τ).loc KernelIdeal.main_arg0)
        ∧ r.2.mem ((c.tc : Thread KernelIdeal.nD KernelIdeal.τ).loc KernelIdeal.main_arg1) = m ((c.tc : Thread KernelIdeal.nD KernelIdeal.τ).loc KernelIdeal.main_arg1)
        ∧ r.2.mem ((c.tc : Thread KernelIdeal.nD KernelIdeal.τ).loc KernelIdeal.main_arg2) = m ((c.tc : Thread KernelIdeal.nD KernelIdeal.τ).loc KernelIdeal.main_arg2)
        ∧ r.2.mem ((c.tc : Thread KernelIdeal.nD KernelIdeal.τ).loc KernelIdeal.main_arg3) = m ((c.tc : Thread KernelIdeal.nD KernelIdeal.τ).loc KernelIdeal.main_arg3)) :=
  (θ_run KernelIdeal.defs _ _).mono (fun _ h c => ⟨(h.1 c 4).trans (KernelIdeal.Hand.final_out m c),
    (h.1 c 0).trans (KernelIdeal.Hand.final_arg0 m c), (h.1 c 1).trans (KernelIdeal.Hand.final_arg1 m c),
    (h.1 c 2).trans (KernelIdeal.Hand.final_arg2 m c), (h.1 c 3).trans (KernelIdeal.Hand.final_arg3 m c)⟩)
    (KernelIdeal.Hand.run_main m g)

/-- The reference's run, read: the result whole, the arguments unchanged. -/
theorem reference_run (m : (ℓ : Loc ReferenceIdeal.nD ReferenceIdeal.τ ReferenceIdeal.sig) → Buf (Elt Ideal) ℓ) (g : Dev ReferenceIdeal.nD → PrngReg) :
    θ_run (ReferenceIdeal.defs (F := Ideal)) (onTc (τ := ReferenceIdeal.τ) (ReferenceIdeal.main (F := Ideal))) ⟨m, fun _ => 0, g⟩
      (fun r => ∀ c : Dev ReferenceIdeal.nD,
        r.2.mem ((c.tc : Thread ReferenceIdeal.nD ReferenceIdeal.τ).loc ReferenceIdeal.main_v0)
          = ReferenceIdeal.Hand.whole (m ((c.tc : Thread ReferenceIdeal.nD ReferenceIdeal.τ).loc ReferenceIdeal.main_arg0))
              (m ((c.tc : Thread ReferenceIdeal.nD ReferenceIdeal.τ).loc ReferenceIdeal.main_arg1))
              (m ((c.tc : Thread ReferenceIdeal.nD ReferenceIdeal.τ).loc ReferenceIdeal.main_arg2))
              (m ((c.tc : Thread ReferenceIdeal.nD ReferenceIdeal.τ).loc ReferenceIdeal.main_arg3))
        ∧ r.2.mem ((c.tc : Thread ReferenceIdeal.nD ReferenceIdeal.τ).loc ReferenceIdeal.main_arg0) = m ((c.tc : Thread ReferenceIdeal.nD ReferenceIdeal.τ).loc ReferenceIdeal.main_arg0)
        ∧ r.2.mem ((c.tc : Thread ReferenceIdeal.nD ReferenceIdeal.τ).loc ReferenceIdeal.main_arg1) = m ((c.tc : Thread ReferenceIdeal.nD ReferenceIdeal.τ).loc ReferenceIdeal.main_arg1)
        ∧ r.2.mem ((c.tc : Thread ReferenceIdeal.nD ReferenceIdeal.τ).loc ReferenceIdeal.main_arg2) = m ((c.tc : Thread ReferenceIdeal.nD ReferenceIdeal.τ).loc ReferenceIdeal.main_arg2)
        ∧ r.2.mem ((c.tc : Thread ReferenceIdeal.nD ReferenceIdeal.τ).loc ReferenceIdeal.main_arg3) = m ((c.tc : Thread ReferenceIdeal.nD ReferenceIdeal.τ).loc ReferenceIdeal.main_arg3)) :=
  (θ_run ReferenceIdeal.defs _ _).mono (fun r h c => ⟨((h c).1 4).trans (ReferenceIdeal.Hand.final m c),
    Pipeline.FramePost.in_eq h c 0 rfl, Pipeline.FramePost.in_eq h c 1 rfl, Pipeline.FramePost.in_eq h c 2 rfl,
    Pipeline.FramePost.in_eq h c 3 rfl⟩)
    (ReferenceIdeal.Gen.run_main m g)

/-- A device's result is its rows of the reference's, when its arguments are its parts of the reference's. -/
theorem rows_eq (m : (ℓ : Loc KernelIdeal.nD KernelIdeal.τ KernelIdeal.sig) → Buf (Elt Ideal) ℓ)
    (x : ReferenceIdeal.S4096x4096.Idx → EReal) (w : ReferenceIdeal.S4096x8192.Idx → EReal) (sx sw : ReferenceIdeal.S1.Idx → EReal)
    (h0 : ∀ c : Dev KernelIdeal.nD, m ((c.tc : Thread KernelIdeal.nD KernelIdeal.τ).loc KernelIdeal.main_arg0)
      = Layout.block ⟨2, ![4096, 256]⟩ ⟨2, ![4096, 4096]⟩ 1 16 c x)
    (h1 : ∀ c : Dev KernelIdeal.nD, m ((c.tc : Thread KernelIdeal.nD KernelIdeal.τ).loc KernelIdeal.main_arg1) = w)
    (h2 : ∀ c : Dev KernelIdeal.nD, m ((c.tc : Thread KernelIdeal.nD KernelIdeal.τ).loc KernelIdeal.main_arg2) = sx)
    (h3 : ∀ c : Dev KernelIdeal.nD, m ((c.tc : Thread KernelIdeal.nD KernelIdeal.τ).loc KernelIdeal.main_arg3) = sw)
    (c : Dev KernelIdeal.nD) : KernelIdeal.Hand.outA m c 7
      = Layout.block ⟨2, ![256, 8192]⟩ ⟨2, ![4096, 8192]⟩ 0 16 c (ReferenceIdeal.Hand.whole x w sx sw) := by
  funext j
  obtain ⟨r, n, rfl⟩ : ∃ (r : Fin 256) (n : Fin 8192), j = ValueIdx.ix2 r n := ⟨j 0, j 1, by funext a; fin_cases a <;> rfl⟩
  have hc : c.val < 16 := c.isLt
  have hx : ∀ s : Dev KernelIdeal.nD, ∀ (a : Fin 4096) (b : Fin 256), KernelIdeal.Hand.X8 m s (ValueIdx.ix2 a b)
      = x (ValueIdx.ix2 a ⟨256 * s.val + b.val, by have : s.val < 16 := s.isLt; omega⟩) := fun s a b => by
    refine (congrFun (h0 s) _).trans (congrArg x (funext fun e => Fin.ext ?_))
    match e with
    | ⟨0, _⟩ => rfl
    | ⟨1, _⟩ => show s.val * 256 + b.val = 256 * s.val + b.val; omega
  have hs : KernelIdeal.Hand.scaleAt m c = sx ReferenceIdeal.Hand.o1 * sw ReferenceIdeal.Hand.o1 := by
    unfold KernelIdeal.Hand.scaleAt
    rw [h2, h3]
    rfl
  have hk : ∀ K : Fin 4096, KernelIdeal.Hand.prodAt m c r n K
      = x (ValueIdx.ix2 (⟨256 * c.val + r.val, by omega⟩ : Fin 4096) K) * w (ValueIdx.ix2 K n) := fun K => by
    unfold KernelIdeal.Hand.prodAt
    rw [KernelIdeal.Hand.XT_rows m x c hx, h1]
  have hj : (ReferenceIdeal.Hand.whole x w sx sw) ((by decide : Layout.Tiles ⟨2, ![256, 8192]⟩ ⟨2, ![4096, 8192]⟩ 0 16).idx c (ValueIdx.ix2 r n))
      = ReferenceIdeal.Hand.entry x w sx sw ⟨256 * c.val + r.val, by omega⟩ n := by
    refine congrArg₂ (ReferenceIdeal.Hand.entry x w sx sw) (Fin.ext ?_) (Fin.ext ?_)
    · show c.val * 256 + r.val = 256 * c.val + r.val; omega
    · rfl
  refine (KernelIdeal.Hand.out_apply m c r n).trans (Eq.trans ?_ hj.symm)
  rw [hs, Finset.sum_congr rfl fun K _ => hk K]
  rfl

/-- The two programs' results agree. -/
theorem algebraic : Cert.algebraic_KernelIdeal_ReferenceIdeal := fun m g m' g' _ h =>
  ⟨_, (θ_run KernelIdeal.defs _ _).mono (fun _ hr c => ⟨(hr c).1.trans (rows_eq m _ _ _ _ (fun c => (h c).1)
      (fun c => (h c).2.1) (fun c => (h c).2.2.1) (fun c => (h c).2.2.2) c), (hr c).2⟩) (kernel_run m g),
    (θ_run ReferenceIdeal.defs _ _).mono (fun _ hr => hr 0) (reference_run m' g')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.RunK
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m g _ => Cert.Kernel.Hand.run_frame m g,
  fun m g _ => Cert.KernelIdeal.Hand.run_frame m g,
  fun m g _ => Cert.ReferenceIdeal.Gen.frame m g,
  trivial,
  algebraic⟩

end Cert.Proof

end
